-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_vertices [hPre_finite_vertices : Cert.Pre_finite_vertices.Facts] (m : (ℓ : Loc Cert.KernelIdeal.nD Cert.KernelIdeal.τ Cert.KernelIdeal.sig) → Buf (Elt Ideal) ℓ) : Prop :=
  ∀ c : Dev Cert.KernelIdeal.nD,
    (Cert.Pre_finite_vertices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_vertices [hPre_finite_vertices : Cert.Pre_finite_vertices.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_vertices.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_vertices [hKernelIdeal : Cert.KernelIdeal.Facts] [hPre_finite_vertices : Cert.Pre_finite_vertices.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_vertices m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_vertices [hReferenceIdeal : Cert.ReferenceIdeal.Facts] [hPre_finite_vertices : Cert.Pre_finite_vertices.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_vertices m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_vertices [hKernelIdeal : Cert.KernelIdeal.Facts] [hReferenceIdeal : Cert.ReferenceIdeal.Facts] [hPre_finite_vertices : Cert.Pre_finite_vertices.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_vertices m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_vertices : Cert.Pre_finite_vertices.Facts),
    quiescent_Kernel (hKernel := hKernel)
    ∧ quiescent_KernelIdeal (hKernelIdeal := hKernelIdeal)
    ∧ quiescent_KernelIdeal_pre_finite_vertices (hKernelIdeal := hKernelIdeal) (hPre_finite_vertices := hPre_finite_vertices)
    ∧ quiescent_ReferenceIdeal (hReferenceIdeal := hReferenceIdeal)
    ∧ quiescent_ReferenceIdeal_pre_finite_vertices (hReferenceIdeal := hReferenceIdeal) (hPre_finite_vertices := hPre_finite_vertices)
    ∧ preserves_Kernel_KernelIdeal
    ∧ algebraic_KernelIdeal_ReferenceIdeal_pre_finite_vertices (hKernelIdeal := hKernelIdeal) (hReferenceIdeal := hReferenceIdeal) (hPre_finite_vertices := hPre_finite_vertices)
-- ==== Pre_finite_vertices.lean ====
abbrev S1024x64x3 : Shape := ⟨3, ![1024, 64, 3]⟩
abbrev S6890x3 : Shape := ⟨2, ![6890, 3]⟩
abbrev S6890x96 : Shape := ⟨2, ![6890, 96]⟩
abbrev S_ : Shape := ⟨0, ![]⟩

class Facts : Prop where
  bcast_S_S6890x3 : S_.BroadcastsInDim S6890x3 (![] : Fin 0 → Fin S6890x3.rank)
  reducesTo_S6890x3_S_d0_1 : S6890x3.ReducesTo [0, 1] S_
  h_S_ : 0 < S_.numel

variable [Facts]

def fn {F : FTy → Type} [FloatOps F] (main_arg0 : FVec F S1024x64x3 .f32) (main_arg1 : FVec F S6890x3 .f32) (main_arg2 : FVec F S6890x96 .f32) : IVec S_ 1 :=
  let main_v0 : FVec F S6890x3 .f32 := Host.absf main_arg1
  let main_cst : FVec F S_ .f32 := constant S_ .f32 0x7F800000#32
  let main_v1 : FVec F S6890x3 .f32 := broadcastInDim S6890x3 ![] bcast_S_S6890x3 main_cst
  let main_v2 : IVec S6890x3 1 := cmpf .olt main_v0 main_v1
  let main_c : IVec S_ 1 := constantI S_ 1 1#1
  let main_v3 : IVec S_ 1 := (fun x v => Host.reduce IntOp.andi x v reducesTo_S6890x3_S_d0_1 h_S_) main_v2 main_c
  main_v3
-- ==== Kernel.lean ====
abbrev S1024x64x3 : Shape := ⟨3, ![1024, 64, 3]⟩
abbrev S6890x3 : Shape := ⟨2, ![6890, 3]⟩
abbrev S6890x96 : Shape := ⟨2, ![6890, 96]⟩
abbrev S_ : Shape := ⟨0, ![]⟩
abbrev S1024x3 : Shape := ⟨2, ![1024, 3]⟩
abbrev S1024x1x3 : Shape := ⟨3, ![1024, 1, 3]⟩
abbrev S65536x3 : Shape := ⟨2, ![65536, 3]⟩
abbrev S6890 : Shape := ⟨1, ![6890]⟩
abbrev S6912x128 : Shape := ⟨2, ![6912, 128]⟩
abbrev S128x6912 : Shape := ⟨2, ![128, 6912]⟩
abbrev S6912 : Shape := ⟨1, ![6912]⟩
abbrev S1x6912 : Shape := ⟨2, ![1, 6912]⟩
abbrev S256x1x256 : Shape := ⟨3, ![256, 1, 256]⟩
abbrev S256x3 : Shape := ⟨2, ![256, 3]⟩
abbrev S1x1x256 : Shape := ⟨3, ![1, 1, 256]⟩
abbrev S256x1 : Shape := ⟨2, ![256, 1]⟩
abbrev S256x125 : Shape := ⟨2, ![256, 125]⟩
abbrev S256x128 : Shape := ⟨2, ![256, 128]⟩
abbrev S256x6912 : Shape := ⟨2, ![256, 6912]⟩
abbrev S256 : Shape := ⟨1, ![256]⟩
abbrev S65536 : Shape := ⟨1, ![65536]⟩
abbrev S7040x128 : Shape := ⟨2, ![7040, 128]⟩
abbrev S1x65536 : Shape := ⟨2, ![1, 65536]⟩
abbrev S65536x128 : Shape := ⟨2, ![65536, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S65536x96 : Shape := ⟨2, ![65536, 96]⟩

abbrev nBuf : Table → Nat
  | .hbm => 39
  | .local .tc .vmem => 7
  | .local .scVector .vmem => 2
  | _ => 0

abbrev bufTy : (tb : Table) → Fin (nBuf tb) → BufTy
  | .hbm, ⟨0, _⟩ => ⟨S1024x64x3, .f32⟩
  | .hbm, ⟨1, _⟩ => ⟨S6890x3, .f32⟩
  | .hbm, ⟨2, _⟩ => ⟨S6890x96, .f32⟩
  | .hbm, ⟨3, _⟩ => ⟨S_, .f32⟩
  | .hbm, ⟨4, _⟩ => ⟨S1024x3, .f32⟩
  | .hbm, ⟨5, _⟩ => ⟨S1024x1x3, .f32⟩
  | .hbm, ⟨6, _⟩ => ⟨S_, .f32⟩
  | .hbm, ⟨7, _⟩ => ⟨S1024x3, .f32⟩
  | .hbm, ⟨8, _⟩ => ⟨S1024x1x3, .f32⟩
  | .hbm, ⟨9, _⟩ => ⟨S1024x64x3, .f32⟩
  | .hbm, ⟨10, _⟩ => ⟨S1024x64x3, .f32⟩
  | .hbm, ⟨11, _⟩ => ⟨S1024x1x3, .f32⟩
  | .hbm, ⟨12, _⟩ => ⟨S1024x64x3, .f32⟩
  | .hbm, ⟨13, _⟩ => ⟨S1024x64x3, .f32⟩
  | .hbm, ⟨14, _⟩ => ⟨S65536x3, .f32⟩
  | .hbm, ⟨15, _⟩ => ⟨S6890x3, .f32⟩
  | .hbm, ⟨16, _⟩ => ⟨S_, .f32⟩
  | .hbm, ⟨17, _⟩ => ⟨S6890, .f32⟩
  | .hbm, ⟨18, _⟩ => ⟨S_, .i32⟩
  | .hbm, ⟨19, _⟩ => ⟨S_, .f32⟩
  | .hbm, ⟨20, _⟩ => ⟨S6912x128, .f32⟩
  | .hbm, ⟨21, _⟩ => ⟨S128x6912, .f32⟩
  | .hbm, ⟨22, _⟩ => ⟨S128x6912, .bf16⟩
  | .hbm, ⟨23, _⟩ => ⟨S128x6912, .f32⟩
  | .hbm, ⟨24, _⟩ => ⟨S128x6912, .f32⟩
  | .hbm, ⟨25, _⟩ => ⟨S128x6912, .bf16⟩
  | .hbm, ⟨26, _⟩ => ⟨S128x6912, .f32⟩
  | .hbm, ⟨27, _⟩ => ⟨S_, .f32⟩
  | .hbm, ⟨28, _⟩ => ⟨S_, .f32⟩
  | .hbm, ⟨29, _⟩ => ⟨S6912, .f32⟩
  | .hbm, ⟨30, _⟩ => ⟨S1x6912, .f32⟩
  | .hbm, ⟨31, _⟩ => ⟨S256x1x256, .i32⟩
  | .hbm, ⟨32, _⟩ => ⟨S65536, .i32⟩
  | .hbm, ⟨33, _⟩ => ⟨S_, .i32⟩
  | .hbm, ⟨34, _⟩ => ⟨S_, .f32⟩
  | .hbm, ⟨35, _⟩ => ⟨S7040x128, .f32⟩
  | .hbm, ⟨36, _⟩ => ⟨S1x65536, .i32⟩
  | .hbm, ⟨37, _⟩ => ⟨S65536x128, .f32⟩
  | .hbm, ⟨38, _⟩ => ⟨S65536x96, .f32⟩
  | .local .tc .vmem, ⟨0, _⟩ => ⟨S256x3, .f32⟩
  | .local .tc .vmem, ⟨1, _⟩ => ⟨S256x3, .f32⟩
  | .local .tc .vmem, ⟨2, _⟩ => ⟨S128x6912, .f32⟩
  | .local .tc .vmem, ⟨3, _⟩ => ⟨S128x6912, .f32⟩
  | .local .tc .vmem, ⟨4, _⟩ => ⟨S1x6912, .f32⟩
  | .local .tc .vmem, ⟨5, _⟩ => ⟨S1x1x256, .i32⟩
  | .local .tc .vmem, ⟨6, _⟩ => ⟨S1x1x256, .i32⟩
  | .local .scVector .vmem, ⟨0, _⟩ => ⟨S2x1x128, .i32⟩
  | .local .scVector .vmem, ⟨1, _⟩ => ⟨S2x128x128, .f32⟩
  | _, _ => ⟨S1024x64x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_call1_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_call2_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v23_scv : Ref sig .scVector := ⟨.hbm, 35, rfl⟩
abbrev main_v24_scv : Ref sig .scVector := ⟨.hbm, 36, rfl⟩
abbrev main_v25_scv : Ref sig .scVector := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x6912 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x6912 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6912 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_off1 : Fin 3 → Nat :=
  let c0_i32_14_r0 : BitVec 32 := 0#32
  let c2_i32_r0 : BitVec 32 := 2#32
  let v21_r0 : BitVec 32 := Scalar.remui c0_i32_14_r0 c2_i32_r0
  let c0_i32_15_r0 : BitVec 32 := 0#32
  let c0_i32_16_r0 : BitVec 32 := 0#32
  ![v21_r0.toNat, 0, 0]
def k1_off2 (i : grid1.Coords) : Fin 2 → Nat :=
  let c0_i32_17_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v22_r0 : BitVec 32 := Scalar.muli c128_i32_r0 v7_r0
  ![0, v22_r0.toNat]
def k1_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
@[reducible] def k1_t1_loop : Scf.Loop 32 :=
  let c0_i32_27_r0 : BitVec 32 := 0#32
  let c16_i32_28_r0 : BitVec 32 := 16#32
  let v32_r0 : BitVec 32 := Scalar.addi c0_i32_27_r0 c16_i32_28_r0
  let c1_i32_29_r0 : BitVec 32 := 1#32
  ⟨c0_i32_27_r0, v32_r0, c1_i32_29_r0⟩
def k1_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k1_t1
  let c15_i32_69_r0 : BitVec 32 := 15#32
  let v83_r0 : BitVec 1 := Scalar.cmpi .sge arg5_r0 c15_i32_69_r0
  let true_70_r0 : BitVec 1 := 1#1
  let v84_r0 : BitVec 1 := Scalar.xori v83_r0 true_70_r0
  let v85_r0 : BitVec 1 := Scalar.andi v82_r0 v84_r0
  let true_71_r0 : BitVec 1 := 1#1
  let v86_r0 : BitVec 1 := Scalar.andi v85_r0 true_71_r0
  let v87_r0 : BitVec 32 := Scalar.extui v86_r0
  let c0_i32_72_r0 : BitVec 32 := 0#32
  let v88_r0 : BitVec 1 := Scalar.cmpi .ne v87_r0 c0_i32_72_r0
  v88_r0

def k1_off5 (i : grid1.Coords) (arg10_r0 : BitVec 32) : Fin 2 → Nat :=
  let c0_i32_104_r0 : BitVec 32 := 0#32
  let c128_i32_101_r0 : BitVec 32 := 128#32
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v76_r0 : BitVec 32 := Scalar.addi v75_r0 v4
  let v145_r0 : BitVec 32 := Scalar.muli c128_i32_101_r0 v76_r0
  ![0, v145_r0.toNat]
def k1_off6 (arg6_r0 : BitVec 32) : Fin 1 → Nat :=
  let c2_i32_100_r0 : BitVec 32 := 2#32
  let v144_r0 : BitVec 32 := Scalar.remui arg6_r0 c2_i32_100_r0
  ![v144_r0.toNat]
def k1_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k1_t1
  let c0_i32_55_r0 : BitVec 32 := 0#32
  let v64_r0 : BitVec 1 := Scalar.cmpi .eq arg5_r0 c0_i32_55_r0
  let v97_r0 : BitVec 1 := Scalar.ori v96_r0 v64_r0
  let c0_i32_77_r0 : BitVec 32 := 0#32
  let v98_r0 : BitVec 1 := Scalar.cmpi .sge arg5_r0 c0_i32_77_r0
  let v99_r0 : BitVec 1 := Scalar.andi v97_r0 v98_r0
  let v100_r0 : BitVec 32 := Scalar.extui v99_r0
  let c0_i32_78_r0 : BitVec 32 := 0#32
  let v101_r0 : BitVec 1 := Scalar.cmpi .ne v100_r0 c0_i32_78_r0
  v101_r0

def k1_off8 (i : grid1.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v144_r0 : BitVec 32 := Scalar.muli c128_i32_100_r0 v66_r0
  ![0, v144_r0.toNat]
def k1_off9 (arg7_r0 : BitVec 32) : Fin 1 → Nat :=
  let c2_i32_101_r0 : BitVec 32 := 2#32
  let v145_r0 : BitVec 32 := Scalar.remui arg7_r0 c2_i32_101_r0
  ![v145_r0.toNat]
def k1_off10 (arg8_r0 : BitVec 32) : Fin 3 → Nat :=
  let c2_i32_82_r0 : BitVec 32 := 2#32
  let v109_r0 : BitVec 32 := Scalar.remui arg8_r0 c2_i32_82_r0
  let c0_i32_100_r1 : BitVec 32 := 0#32
  let c0_i32_101_r1 : BitVec 32 := 0#32
  ![v109_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_81_r0 : BitVec 32 := 2#32
  let v108_r0 : BitVec 32 := Scalar.remui arg7_r0 c2_i32_81_r0
  let c0_i32_102_r1 : BitVec 32 := 0#32
  let c0_i32_103_r1 : BitVec 32 := 0#32
  ![v108_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k1_t1
  let c15_i32_56_r0 : BitVec 32 := 15#32
  let v65_r0 : BitVec 1 := Scalar.cmpi .eq arg5_r0 c15_i32_56_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k1_off13 (i : grid1.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v145_r0 : BitVec 32 := Scalar.muli c128_i32_101_r0 v66_r0
  let c0_i32_104_r0 : BitVec 32 := 0#32
  ![v145_r0.toNat, 0]
def k1_off14 (arg8_r0 : BitVec 32) : Fin 1 → Nat :=
  let c2_i32_100_r0 : BitVec 32 := 2#32
  let v144_r0 : BitVec 32 := Scalar.remui arg8_r0 c2_i32_100_r0
  ![v144_r0.toNat]
def k1_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k1_t1
  let c0_i32_55_r0 : BitVec 32 := 0#32
  let v64_r0 : BitVec 1 := Scalar.cmpi .eq arg5_r0 c0_i32_55_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k1_off16 (i : grid1.Coords) (arg10_r0 : BitVec 32) : Fin 2 → Nat :=
  let c128_i32_101_r0 : BitVec 32 := 128#32
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v71_r0 : BitVec 32 := Scalar.addi v70_r0 v4
  let v145_r0 : BitVec 32 := Scalar.muli c128_i32_101_r0 v71_r0
  let c0_i32_104_r0 : BitVec 32 := 0#32
  ![v145_r0.toNat, 0]
def k1_off17 (arg9_r0 : BitVec 32) : Fin 1 → Nat :=
  let c2_i32_100_r0 : BitVec 32 := 2#32
  let v144_r0 : BitVec 32 := Scalar.remui arg9_r0 c2_i32_100_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x65536.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x65536.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S65536x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S65536x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x65536.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x65536.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S65536x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S65536x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_47_r0 : BitVec 32 := 2#32
  let v54_r0 : BitVec 32 := Scalar.remui v33_3_r0 c2_i32_47_r0
  let c0_i32_49_r0 : BitVec 32 := 0#32
  let c0_i32_50_r0 : BitVec 32 := 0#32
  ![v54_r0.toNat, 0, 0]

def k1_off19 (i : grid1.Coords) (v33_4_r0 : BitVec 32) : Fin 2 → Nat :=
  let c128_i32_48_r0 : BitVec 32 := 128#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c15_i32_34_r0 : BitVec 32 := 15#32
  let v37_r0 : BitVec 32 := Scalar.select v36_r0 c15_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v38_r0 : BitVec 32 := Scalar.addi v37_r0 v4
  let v55_r0 : BitVec 32 := Scalar.muli c128_i32_48_r0 v38_r0
  let c0_i32_51_r0 : BitVec 32 := 0#32
  ![v55_r0.toNat, 0]

def k1_chk5 (i : grid1.Coords) (v33_4_r0 : BitVec 32) : Prop :=
  (∀ a, (k1_off19 i v33_4_r0) a + S128x128.size a ≤ S65536x128.size a)
theorem k1_off19_inb : ∀ (i : grid1.Coords) (v33_4_r0 : BitVec 32) (k1_hw5 : k1_chk5 i v33_4_r0), ∀ a, (k1_off19 i v33_4_r0) a + S128x128.size a ≤ S65536x128.size a := fun i v33_4_r0 k1_hw5 => k1_hw5

def k1_off20 (v33_3_r0 : BitVec 32) : Fin 1 → Nat :=
  let c2_i32_47_r0 : BitVec 32 := 2#32
  let v54_r0 : BitVec 32 := Scalar.remui v33_3_r0 c2_i32_47_r0
  ![v54_r0.toNat]
def k1_off21 (v33_3_r0 : BitVec 32) : Fin 3 → Nat :=
  let c2_i32_47_r0 : BitVec 32 := 2#32
  let v54_r0 : BitVec 32 := Scalar.remui v33_3_r0 c2_i32_47_r0
  let c0_i32_53_r0 : BitVec 32 := 0#32
  let c0_i32_54_r0 : BitVec 32 := 0#32
  ![v54_r0.toNat, 0, 0]

def k1_chk4 (v33_3_r0 : BitVec 32) : Prop :=
  (∀ a, (k1_off18 v33_3_r0) a + S1x128x128.size a ≤ S2x128x128.size a) ∧
  (∀ a, (k1_off20 v33_3_r0) a + S1.size a ≤ S2.size a) ∧
  (∀ a, (k1_off21 v33_3_r0) a + S1x128x128.size a ≤ S2x128x128.size a)
theorem k1_off18_inb : ∀ (v33_3_r0 : BitVec 32) (k1_hw4 : k1_chk4 v33_3_r0), ∀ a, (k1_off18 v33_3_r0) a + S1x128x128.size a ≤ S2x128x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x128x128.size a ≤ S2x128x128.size a := fun v33_3_r0 k1_hw4 => k1_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x64x3 : Shape := ⟨3, ![1024, 64, 3]⟩
abbrev S6890x3 : Shape := ⟨2, ![6890, 3]⟩
abbrev S6890x96 : Shape := ⟨2, ![6890, 96]⟩
abbrev S_ : Shape := ⟨0, ![]⟩
abbrev S1024x3 : Shape := ⟨2, ![1024, 3]⟩
abbrev S1024x1x3 : Shape := ⟨3, ![1024, 1, 3]⟩
abbrev S65536x3 : Shape := ⟨2, ![65536, 3]⟩
abbrev S6890 : Shape := ⟨1, ![6890]⟩
abbrev S65536 : Shape := ⟨1, ![65536]⟩
abbrev S65536x1 : Shape := ⟨2, ![65536, 1]⟩
abbrev S3x6890 : Shape := ⟨2, ![3, 6890]⟩
abbrev S65536x6890 : Shape := ⟨2, ![65536, 6890]⟩
abbrev S1x6890 : Shape := ⟨2, ![1, 6890]⟩
abbrev S1 : Shape := ⟨1, ![1]⟩
abbrev S1x1 : Shape := ⟨2, ![1, 1]⟩
abbrev S65536x96 : Shape := ⟨2, ![65536, 96]⟩

abbrev nBuf : Space → Nat
  | .hbm => 64
  | .vmem => 0
  | .smem => 0
  | _ => 0

abbrev bufTy : (tb : Table) → Fin (tcTables nBuf tb) → BufTy
  | .hbm, ⟨0, _⟩ => ⟨S1024x64x3, .f32⟩
  | .hbm, ⟨1, _⟩ => ⟨S6890x3, .f32⟩
  | .hbm, ⟨2, _⟩ => ⟨S6890x96, .f32⟩
  | .hbm, ⟨3, _⟩ => ⟨S_, .f32⟩
  | .hbm, ⟨4, _⟩ => ⟨S1024x3, .f32⟩
  | .hbm, ⟨5, _⟩ => ⟨S1024x1x3, .f32⟩
  | .hbm, ⟨6, _⟩ => ⟨S_, .f32⟩
  | .hbm, ⟨7, _⟩ => ⟨S1024x3, .f32⟩
  | .hbm, ⟨8, _⟩ => ⟨S1024x1x3, .f32⟩
  | .hbm, ⟨9, _⟩ => ⟨S1024x64x3, .f32⟩
  | .hbm, ⟨10, _⟩ => ⟨S1024x64x3, .f32⟩
  | .hbm, ⟨11, _⟩ => ⟨S1024x1x3, .f32⟩
  | .hbm, ⟨12, _⟩ => ⟨S1024x64x3, .f32⟩
  | .hbm, ⟨13, _⟩ => ⟨S1024x64x3, .f32⟩
  | .hbm, ⟨14, _⟩ => ⟨S65536x3, .f32⟩
  | .hbm, ⟨15, _⟩ => ⟨S6890x3, .f32⟩
  | .hbm, ⟨16, _⟩ => ⟨S_, .f32⟩
  | .hbm, ⟨17, _⟩ => ⟨S6890, .f32⟩
  | .hbm, ⟨18, _⟩ => ⟨S65536x3, .f32⟩
  | .hbm, ⟨19, _⟩ => ⟨S_, .f32⟩
  | .hbm, ⟨20, _⟩ => ⟨S65536, .f32⟩
  | .hbm, ⟨21, _⟩ => ⟨S65536x1, .f32⟩
  | .hbm, ⟨22, _⟩ => ⟨S3x6890, .f32⟩
  | .hbm, ⟨23, _⟩ => ⟨S65536x6890, .f32⟩
  | .hbm, ⟨24, _⟩ => ⟨S_, .f32⟩
  | .hbm, ⟨25, _⟩ => ⟨S65536x6890, .f32⟩
  | .hbm, ⟨26, _⟩ => ⟨S65536x6890, .f32⟩
  | .hbm, ⟨27, _⟩ => ⟨S65536x6890, .f32⟩
  | .hbm, ⟨28, _⟩ => ⟨S65536x6890, .f32⟩
  | .hbm, ⟨29, _⟩ => ⟨S1x6890, .f32⟩
  | .hbm, ⟨30, _⟩ => ⟨S65536x6890, .f32⟩
  | .hbm, ⟨31, _⟩ => ⟨S65536x6890, .f32⟩
  | .hbm, ⟨32, _⟩ => ⟨S_, .f32⟩
  | .hbm, ⟨33, _⟩ => ⟨S65536x6890, .f32⟩
  | .hbm, ⟨34, _⟩ => ⟨S65536x6890, .f32⟩
  | .hbm, ⟨35, _⟩ => ⟨S65536x6890, .f32⟩
  | .hbm, ⟨36, _⟩ => ⟨S65536x6890, .i32⟩
  | .hbm, ⟨37, _⟩ => ⟨S_, .f32⟩
  | .hbm, ⟨38, _⟩ => ⟨S_, .i32⟩
  | .hbm, ⟨39, _⟩ => ⟨S65536, .f32⟩
  | .hbm, ⟨40, _⟩ => ⟨S65536, .i32⟩
  | .hbm, ⟨41, _⟩ => ⟨S_, .i32⟩
  | .hbm, ⟨42, _⟩ => ⟨S65536, .i32⟩
  | .hbm, ⟨43, _⟩ => ⟨S65536, .i1⟩
  | .hbm, ⟨44, _⟩ => ⟨S_, .i32⟩
  | .hbm, ⟨45, _⟩ => ⟨S65536, .i32⟩
  | .hbm, ⟨46, _⟩ => ⟨S65536, .i32⟩
  | .hbm, ⟨47, _⟩ => ⟨S65536, .i32⟩
  | .hbm, ⟨48, _⟩ => ⟨S65536x1, .i32⟩
  | .hbm, ⟨49, _⟩ => ⟨S1, .i32⟩
  | .hbm, ⟨50, _⟩ => ⟨S_, .i32⟩
  | .hbm, ⟨51, _⟩ => ⟨S65536x1, .i32⟩
  | .hbm, ⟨52, _⟩ => ⟨S65536x1, .i1⟩
  | .hbm, ⟨53, _⟩ => ⟨S1x1, .i32⟩
  | .hbm, ⟨54, _⟩ => ⟨S65536x1, .i32⟩
  | .hbm, ⟨55, _⟩ => ⟨S65536x1, .i1⟩
  | .hbm, ⟨56, _⟩ => ⟨S65536x1, .i1⟩
  | .hbm, ⟨57, _⟩ => ⟨S_, .i1⟩
  | .hbm, ⟨58, _⟩ => ⟨S65536, .i1⟩
  | .hbm, ⟨59, _⟩ => ⟨S65536x96, .f32⟩
  | .hbm, ⟨60, _⟩ => ⟨S65536x96, .i1⟩
  | .hbm, ⟨61, _⟩ => ⟨S_, .f32⟩
  | .hbm, ⟨62, _⟩ => ⟨S65536x96, .f32⟩
  | .hbm, ⟨63, _⟩ => ⟨S65536x96, .f32⟩
  | _, _ => ⟨S1024x64x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_v0 : Ref sig .tc := ⟨.hbm, 36, rfl⟩
abbrev main_call0_cst : Ref sig .tc := ⟨.hbm, 37, rfl⟩
abbrev main_call0_c : Ref sig .tc := ⟨.hbm, 38, rfl⟩
abbrev main_call0_v1_0 : Ref sig .tc := ⟨.hbm, 39, rfl⟩
abbrev main_v27 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v28 : Ref sig .tc := ⟨.hbm, 63, rfl⟩

abbrev nD : Nat := 1
abbrev τ : Topo := Topo.v7x

variable {F : FTy → Type} [FloatOps F]
-- ==== Proof.Words.lean ====
/-
  The words the SparseCore loop carries, and what its printed offsets and conditions come to.

  At trip `t` the five carried words are the count of index fetches, of index waits, of gathers, of
  write-out waits, and the block within the tile's sixteen.  Each printed offset is a computation on
  those words; the lemmas below give its value, by running it at every tile and trip.
-/
module

public import proofs.«01_k».proof.Proof.Gen.KernelIdeal
public import proofs.«01_k».proof.Proof.Gen.KernelIdeal.Skeleton

@[expose] public section

namespace Cert.Proof.K

open Cert.KernelIdeal Cert.KernelIdeal.Gen
open Idealize.ShloMosaic

/-- The first row of tile `L`'s sixteen blocks of 128. -/
def base (L : grid1.Coords) : ℕ := 2048 * (L 1).val + 32768 * (L 0).val

/-- The carried words before trip `t`. -/
def words (t : ℕ) : BitVec 32 × BitVec 32 × BitVec 32 × BitVec 32 × BitVec 32 :=
  (BitVec.ofNat 32 (min (t + 1) 16), BitVec.ofNat 32 t, BitVec.ofNat 32 t, BitVec.ofNat 32 (t - 1), BitVec.ofNat 32 (t % 16))

abbrev w6 (t : ℕ) : BitVec 32 := BitVec.ofNat 32 (min (t + 1) 16)
abbrev w7 (t : ℕ) : BitVec 32 := BitVec.ofNat 32 t
abbrev w9 (t : ℕ) : BitVec 32 := BitVec.ofNat 32 (t - 1)
abbrev w10 (t : ℕ) : BitVec 32 := BitVec.ofNat 32 (t % 16)
/-- The tile's first block, as the kernel computes it. -/
abbrev w4 (L : grid1.Coords) : BitVec 32 :=
  Scalar.muli (Scalar.addi (Scalar.addi 0#32 (Scalar.muli (BitVec.ofNat 32 (L 1).val) 1#32)) (Scalar.muli (BitVec.ofNat 32 (L 0).val) 16#32)) 16#32

theorem trips_eq : k1_t1_loop.trips = 16 := rfl

set_option maxRecDepth 16384

theorem cond1_iff : ∀ (L : grid1.Coords) (t : Fin k1_t1_loop.trips), k1_cond1 L t (w10 t.val) = 1#1 ↔ t.val < 15 := by decide +kernel
theorem cond2_true : ∀ (L : grid1.Coords) (t : Fin k1_t1_loop.trips), k1_cond2 L t (w10 t.val) = 1#1 := by decide +kernel
theorem cond5_true : ∀ (L : grid1.Coords) (t : Fin k1_t1_loop.trips), k1_cond5 L t (w10 t.val) = 1#1 := by decide +kernel
theorem cond7_iff : ∀ (L : grid1.Coords) (t : Fin k1_t1_loop.trips), k1_cond7 L t (w10 t.val) = 1#1 ↔ 0 < t.val := by decide +kernel

theorem chk1_ok : ∀ (L : grid1.Coords) (t : Fin k1_t1_loop.trips), k1_chk1 L t (w6 t.val) (w7 t.val) (w7 t.val) (w9 t.val) (w10 t.val) := by decide +kernel
theorem chk2_ok : ∀ (t : Fin k1_t1_loop.trips), k1_chk2 (w7 t.val) := by decide +kernel
theorem chk3_ok : ∀ (t : Fin k1_t1_loop.trips), k1_chk3 (w7 t.val) := by decide +kernel
theorem chk4_ok : k1_chk4 (w9 16) := by decide +kernel
theorem chk5_ok : ∀ (L : grid1.Coords), k1_chk5 L (w10 16) := by decide +kernel

theorem off4_val : ∀ (t : Fin k1_t1_loop.trips), k1_off4 (w6 t.val) = ![(t.val + 1) % 2, 0, 0] := by decide +kernel
theorem off6_val : ∀ (t : Fin k1_t1_loop.trips), k1_off6 (w6 t.val) = ![(t.val + 1) % 2] := by decide +kernel
theorem off5_val : ∀ (L : grid1.Coords) (t : Fin k1_t1_loop.trips), t.val < 15 → k1_off5 L (w10 t.val) = ![0, base L + 128 * (t.val + 1)] := by decide +kernel
theorem off7_val : ∀ (t : Fin k1_t1_loop.trips), k1_off7 (w7 t.val) = ![t.val % 2, 0, 0] := by decide +kernel
theorem off9_val : ∀ (t : Fin k1_t1_loop.trips), k1_off9 (w7 t.val) = ![t.val % 2] := by decide +kernel
theorem off10_val : ∀ (t : Fin k1_t1_loop.trips), k1_off10 (w7 t.val) = ![t.val % 2, 0, 0] := by decide +kernel
theorem off11_val : ∀ (t : Fin k1_t1_loop.trips), k1_off11 (w7 t.val) = ![t.val % 2, 0, 0] := by decide +kernel
theorem off12_val : ∀ (t : Fin k1_t1_loop.trips), k1_off12 (w7 t.val) = ![t.val % 2, 0, 0] := by decide +kernel
theorem off13_val : ∀ (L : grid1.Coords) (t : Fin k1_t1_loop.trips), k1_off13 L (w10 t.val) = ![base L + 128 * t.val, 0] := by decide +kernel
theorem off14_val : ∀ (t : Fin k1_t1_loop.trips), k1_off14 (w7 t.val) = ![t.val % 2] := by decide +kernel
theorem off17_val : ∀ (t : Fin k1_t1_loop.trips), 0 < t.val → k1_off17 (w9 t.val) = ![(t.val - 1) % 2] := by decide +kernel
theorem off20_val : k1_off20 (w9 16) = ![1] := by decide +kernel
theorem off2_val (L : grid1.Coords) : k1_off2 L = ![0, base L + 128 * 0] := by rw [k1_off2_eq]; rfl

/-- The words after trip `t` are the next trip's. -/
theorem words_step : ∀ (L : grid1.Coords) (t : Fin k1_t1_loop.trips),
    (let arg5 : BitVec 32 := Scf.iv 0#32 1#32 t
     let v64 := Scalar.cmpi .eq arg5 0#32
     let v65 := Scalar.cmpi .eq arg5 15#32
     let v66 := Scalar.addi (w10 t.val) (w4 L)
     let v68 := Scalar.select 1#1 (Scalar.subi (w10 t.val) 1#32) (w10 t.val)
     let v71 := Scalar.addi (Scalar.select (Scalar.cmpi .eq v68 4294967295#32) 15#32 v68) (w4 L)
     let v73 := Scalar.select 1#1 (Scalar.addi (w10 t.val) 1#32) (w10 t.val)
     let v76 := Scalar.addi (Scalar.select (Scalar.cmpi .eq v73 16#32) 0#32 v73) (w4 L)
     let v85 := Scalar.andi (Scalar.cmpi .ne v66 v76) (Scalar.xori (Scalar.cmpi .sge arg5 15#32) 1#1)
     let v91 := Scalar.select (Scalar.andi v85 1#1) (Scalar.addi (w6 t.val) 1#32) (w6 t.val)
     let v116 := Scalar.ori (Scalar.cmpi .ne v66 v76) v65
     let v121 := Scalar.select (Scalar.andi v116 1#1) (Scalar.addi (w7 t.val) 1#32) (w7 t.val)
     let v130 := Scalar.andi (Scalar.cmpi .ne v66 v71) (Scalar.xori v64 1#1)
     let v135 := Scalar.select (Scalar.andi v130 1#1) (Scalar.addi (w9 t.val) 1#32) (w9 t.val)
     let v139 := Scalar.select (Scalar.ori (Scalar.cmpi .ne v66 v76) v65) (Scalar.addi (w7 t.val) 1#32) (w7 t.val)
     let v141 := Scalar.select 1#1 (Scalar.addi (w10 t.val) 1#32) (w10 t.val)
     let v143 := Scalar.select (Scalar.cmpi .eq v141 16#32) 0#32 v141
     (v91, v139, v121, v135, v143)) = words (t.val + 1) := by decide +kernel

end Cert.Proof.K
-- ==== Proof.Setup.lean ====
/-
  The SparseCore call's pieces: the program as the launch theorem sees it, the ghost state, the buffers the
  call's copies move, cut into the blocks and slots a tile addresses, and what a block holds at the end.

  Tile `L` handles sixteen blocks of 128 rows.  Block `n` (of 512) is columns `128 n …` of the index row and
  rows `128 n …` of the output.  A slot `p` (of 2) is one half of each of the tile's two scratch buffers.
-/
module

public import proofs.«01_k».proof.Defs
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱P : Variants := 𝒱₀.lift
abbrev 𝒱 : Variants := 𝒱P
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The call's buffers -/

abbrev iLoc (d : Dev nD) : Loc nD τ sig := (SparseCore.T d).loc main_v24
abbrev tLoc (d : Dev nD) : Loc nD τ sig := (SparseCore.T d).loc main_v23
abbrev oLoc (d : Dev nD) : Loc nD τ sig := (SparseCore.T d).loc main_v25

abbrev iV : Memref sig .scVector .hbm S1x65536 .i32 := Memref.whole main_v24_scv
abbrev tV : Memref sig .scVector .hbm S7040x128 .f32 := Memref.whole main_v23_scv
abbrev oV : Memref sig .scVector .hbm S65536x128 .f32 := Memref.whole main_v25_scv
abbrev aV : Memref sig .scVector .vmem S2x1x128 .i32 := Memref.whole cc1_scoped0
abbrev bV : Memref sig .scVector .vmem S2x128x128 .f32 := Memref.whole cc1_scoped2

/-! ## Blocks of the index row and of the output -/

theorem idiv : 512 ∣ S1x65536.size 1 := ⟨128, rfl⟩
theorem odiv : 512 ∣ S65536x128.size 0 := ⟨128, rfl⟩
abbrev irow (n : Fin 512) : Rect S1x65536 := Rect.part (s := S1x65536) (a₀ := 1) idiv n
abbrev orow (n : Fin 512) : Rect S65536x128 := Rect.part (s := S65536x128) (a₀ := 0) odiv n
def iSet (n : Fin 512) : Finset S1x65536.Idx := (irow n).set
def oSet (n : Fin 512) : Finset S65536x128.Idx := (orow n).set

theorem iBlk_inb (n : Fin 512) : ∀ a, (![0, 128 * n.val] : Fin 2 → ℕ) a + S1x128.size a ≤ S1x65536.size a := by
  intro a
  match a with
  | 0 => show 0 + 1 ≤ 1; omega
  | 1 => show 128 * n.val + 128 ≤ 65536; omega
theorem oBlk_inb (n : Fin 512) : ∀ a, (![128 * n.val, 0] : Fin 2 → ℕ) a + S128x128.size a ≤ S65536x128.size a := by
  intro a
  match a with
  | 0 => show 128 * n.val + 128 ≤ 65536; omega
  | 1 => show 0 + 128 ≤ 128; omega

/-- Block `n` of the index row, and of the output. -/
abbrev iBlk (n : Fin 512) : Memref sig .scVector .hbm S1x128 .i32 :=
  iV.slice (Rect.unit (s := S1x65536) ![0, 128 * n.val] S1x128.size (iBlk_inb n)) (fun _ => rfl)
abbrev oBlk (n : Fin 512) : Memref sig .scVector .hbm S128x128 .f32 :=
  oV.slice (Rect.unit (s := S65536x128) ![128 * n.val, 0] S128x128.size (oBlk_inb n)) (fun _ => rfl)

theorem iRect_eq (n : Fin 512) : Rect.unit (s := S1x65536) ![0, 128 * n.val] S1x128.size (iBlk_inb n) = irow n := by
  unfold irow Rect.part Rect.block
  congr 1 <;> funext a
  · match a with
    | 0 => simp [Shape.partIx, Shape.partSize]
    | 1 => simp [Shape.partIx, Shape.partSize]; omega
  · match a with
    | 0 => simp [Shape.partSize]
    | 1 => simp [Shape.partSize]
theorem oRect_eq (n : Fin 512) : Rect.unit (s := S65536x128) ![128 * n.val, 0] S128x128.size (oBlk_inb n) = orow n := by
  unfold orow Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

theorem set_iBlk (n : Fin 512) : (iBlk n).view.set = iSet n := by
  show (iV.view.slice (Rect.unit (s := S1x65536) ![0, 128 * n.val] S1x128.size (iBlk_inb n))).set = (irow n).set
  rw [View.set_slice]
  exact (congrArg (fun r : Rect S1x65536 => r.set.map _) (iRect_eq n)).trans Finset.map_refl
theorem set_oBlk (n : Fin 512) : (oBlk n).view.set = oSet n := by
  show (oV.view.slice (Rect.unit (s := S65536x128) ![128 * n.val, 0] S128x128.size (oBlk_inb n))).set = (orow n).set
  rw [View.set_slice]
  exact (congrArg (fun r : Rect S65536x128 => r.set.map _) (oRect_eq n)).trans Finset.map_refl

theorem iSet_disjoint : ∀ i ∈ (Finset.univ : Finset (Fin 512)), ∀ j ∈ (Finset.univ : Finset (Fin 512)), i ≠ j → Disjoint (iSet i) (iSet j) :=
  fun _ _ _ _ h => Rect.part_disjoint idiv h
theorem oSet_disjoint : ∀ i ∈ (Finset.univ : Finset (Fin 512)), ∀ j ∈ (Finset.univ : Finset (Fin 512)), i ≠ j → Disjoint (oSet i) (oSet j) :=
  fun _ _ _ _ h => Rect.part_disjoint odiv h
theorem iSet_cover : (Finset.univ : Finset (Fin 512)).biUnion iSet = Finset.univ := Rect.biUnion_part idiv
theorem oSet_cover : (Finset.univ : Finset (Fin 512)).biUnion oSet = Finset.univ := Rect.biUnion_part odiv

/-! ## Slots of the two scratch buffers -/

theorem aSlot_inb (p : Fin 2) : ∀ a, (![p.val, 0, 0] : Fin 3 → ℕ) a + S1x1x128.size a ≤ S2x1x128.size a := by
  revert p; decide
theorem bSlot_inb (p : Fin 2) : ∀ a, (![p.val, 0, 0] : Fin 3 → ℕ) a + S1x128x128.size a ≤ S2x128x128.size a := by
  revert p; decide
theorem sem_inb (p : Fin 2) : ∀ a, (![p.val] : Fin 1 → ℕ) a + S1.size a ≤ S2.size a := by
  revert p; decide

/-- Slot `p` of the index scratch, the same as a list, and slot `p` of the row scratch. -/
abbrev aSlot (p : Fin 2) : Memref sig .scVector .vmem S1x128 .i32 :=
  (aV.slice (Rect.unit (s := S2x1x128) ![p.val, 0, 0] S1x1x128.size (aSlot_inb p)) (fun _ => rfl)).squeeze S1x128 squeezes_S1x1x128_S1x128
abbrev lSlot (p : Fin 2) : Memref sig .scVector .vmem S128 .i32 :=
  ((aSlot p).slice (Rect.unit (s := S1x128) ![0, 0] S1x128.size inb_S1x128_S1x128_0_0) (fun _ => rfl)).squeeze S128 squeezes_S1x128_S128
abbrev bSlot (p : Fin 2) : Memref sig .scVector .vmem S128x128 .f32 :=
  (bV.slice (Rect.unit (s := S2x128x128) ![p.val, 0, 0] S1x128x128.size (bSlot_inb p)) (fun _ => rfl)).squeeze S128x128 squeezes_S1x128x128_S128x128
/-- The table, as the gather addresses it. -/
abbrev tAll : Memref sig .scVector .hbm S7040x128 .f32 :=
  tV.slice (Rect.unit (s := S7040x128) ![0, 0] S7040x128.size inb_S7040x128_S7040x128_0_0) (fun _ => rfl)

/-- The slots' semaphores, and the gather's. -/
abbrev semA (p : Fin 2) : DmaSem sig :=
  ((cc1_scoped1.slice (Rect.unit (s := S2) ![p.val] S1.size (sem_inb p))).squeeze S_ squeezes_S1_S_).sem
abbrev semB (p : Fin 2) : DmaSem sig :=
  ((cc1_scoped3.slice (Rect.unit (s := S2) ![p.val] S1.size (sem_inb p))).squeeze S_ squeezes_S1_S_).sem
abbrev semG : DmaSem sig := cc1_scoped4.sem

/-- A printed slot whose offset comes to slot `p`'s is slot `p`. -/
theorem aSlot_of {off : Fin 3 → ℕ} (p : Fin 2) (e : off = ![p.val, 0, 0]) (h : ∀ a, off a + S1x1x128.size a ≤ S2x1x128.size a) :
    (aV.slice (Rect.unit (s := S2x1x128) off S1x1x128.size h) (fun _ => rfl)).squeeze S1x128 squeezes_S1x1x128_S1x128 = aSlot p := by
  subst e; rfl
theorem bSlot_of {off : Fin 3 → ℕ} (p : Fin 2) (e : off = ![p.val, 0, 0]) (h : ∀ a, off a + S1x128x128.size a ≤ S2x128x128.size a) :
    (bV.slice (Rect.unit (s := S2x128x128) off S1x128x128.size h) (fun _ => rfl)).squeeze S128x128 squeezes_S1x128x128_S128x128 = bSlot p := by
  subst e; rfl
theorem iBlk_of {off : Fin 2 → ℕ} (n : Fin 512) (e : off = ![0, 128 * n.val]) (h : ∀ a, off a + S1x128.size a ≤ S1x65536.size a) :
    iV.slice (Rect.unit (s := S1x65536) off S1x128.size h) (fun _ => rfl) = iBlk n := by
  subst e; rfl
theorem oBlk_of {off : Fin 2 → ℕ} (n : Fin 512) (e : off = ![128 * n.val, 0]) (h : ∀ a, off a + S128x128.size a ≤ S65536x128.size a) :
    oV.slice (Rect.unit (s := S65536x128) off S128x128.size h) (fun _ => rfl) = oBlk n := by
  subst e; rfl
theorem semA_of {off : Fin 1 → ℕ} (p : Fin 2) (e : off = ![p.val]) (h : ∀ a, off a + S1.size a ≤ S2.size a) :
    ((cc1_scoped1.slice (Rect.unit (s := S2) off S1.size h)).squeeze S_ squeezes_S1_S_).sem = semA p := by
  subst e; rfl
theorem semB_of {off : Fin 1 → ℕ} (p : Fin 2) (e : off = ![p.val]) (h : ∀ a, off a + S1.size a ≤ S2.size a) :
    ((cc1_scoped3.slice (Rect.unit (s := S2) off S1.size h)).squeeze S_ squeezes_S1_S_).sem = semB p := by
  subst e; rfl

/-! ## The row a gathered row comes from, and the output's contents -/

/-- The table row that index word `w` names. -/
def rowOf (w : BitVec 32) : Fin 7040 := ⟨w.toNat % 7040, Nat.mod_lt _ (by decide)⟩

/-- Where the output's row `x 0` finds its index word. -/
def ixAt (x : S65536x128.Idx) : S1x65536.Idx := fun | 0 => (0 : Fin 1) | 1 => (x 0 : Fin 65536)
/-- The table element that the output's element `x` copies, when the index words are `I`. -/
def tabAt (I : S1x65536.Idx → BitVec 32) (x : S65536x128.Idx) : S7040x128.Idx :=
  fun | 0 => (rowOf (I (ixAt x)) : Fin 7040) | 1 => (x 1 : Fin 128)
/-- The output: at row `r`, the table's row that the index word `r` names. -/
def gath {α : Type} (I : S1x65536.Idx → BitVec 32) (A : S7040x128.Idx → α) : S65536x128.Idx → α := fun x => A (tabAt I x)

/-- The list's entry `x` is the index row's block's entry. -/
theorem list_read (n : Fin 512) (p : Fin 2) (I : S1x65536.Idx → Elt F .i32)
    (fa : S2x1x128.Idx → Elt F .i32) (hfa : (aSlot p).view.read (Elt F) fa = (iBlk n).view.read (Elt F) I) (x : S128.Idx) :
    (lSlot p).view.read (Elt F) fa x
      = I ((iBlk n).view.emb ((Rect.unit (s := S1x128) ![0, 0] S1x128.size inb_S1x128_S1x128_0_0).emb (Shape.reshapeEquiv (squeezes_S1x128_S128).numel_eq x))) :=
  congrFun hfa ((Rect.unit (s := S1x128) ![0, 0] S1x128.size inb_S1x128_S1x128_0_0).emb (Shape.reshapeEquiv (squeezes_S1x128_S128).numel_eq x))

/-- The list's entries are the index row's block's, so below the table's height. -/
theorem list_in (n : Fin 512) (p : Fin 2) (I : S1x65536.Idx → Elt F .i32) (hI : ∀ x, (I x).toNat < 7040)
    (fa : S2x1x128.Idx → Elt F .i32) (hfa : (aSlot p).view.read (Elt F) fa = (iBlk n).view.read (Elt F) I) :
    ∀ x, ((lSlot p).view.read (Elt F) fa x).toNat < S7040x128.size (gathers_S7040x128_S128x128).axis := by
  intro x
  rw [list_read n p I fa hfa]
  exact hI _

/-- Position `k` of the list's 128 entries, as an index of one row of 128. -/
theorem list_ix (k : Fin S128.numel) :
    (Shape.reshapeEquiv (s := S1x128) (s' := S128) (squeezes_S1x128_S128).numel_eq (S128.rowMajor.symm k) 1).val = k.val := by
  rw [Shape.reshapeEquiv_eq_of_rowMajor (s := S1x128) (s' := S128) _ (x := S128.rowMajor.symm k)
    (y := Shape.pair (0 : Fin 1) (⟨k.val, k.isLt⟩ : Fin 128))]
  · rfl
  · rw [Equiv.apply_symm_apply]
    refine (Shape.rowMajor_pair_val (d := ![1, 128]) (0 : Fin 1) (⟨k.val, k.isLt⟩ : Fin 128)).trans ?_
    show 0 * 128 + k.val = k.val
    omega

/-- What a gathered slot holds is the output's block `n`, when the list holds the index row's block `n`. -/
theorem gather_blk (n : Fin 512) (p : Fin 2) (I : S1x65536.Idx → Elt F .i32) (A : S7040x128.Idx → Elt F .f32)
    (hI : ∀ x, (I x).toNat < 7040)
    (fa : S2x1x128.Idx → Elt F .i32) (hfa : (aSlot p).view.read (Elt F) fa = (iBlk n).view.read (Elt F) I)
    (hn : S128.numel = S128x128.size (gathers_S7040x128_S128x128).axis')
    (hin : ∀ x, ((lSlot p).view.read (Elt F) fa x).toNat < S7040x128.size (gathers_S7040x128_S128x128).axis) :
    SparseCore.gatherPayload gathers_S7040x128_S128x128 (tAll.view.read (Elt F) A) (SparseCore.rows ((lSlot p).view.read (Elt F) fa) hn hin)
      = (oBlk n).view.read (Elt F) (gath I A) := by
  funext j
  show A (tAll.view.emb (Shape.Gathers.idx gathers_S7040x128_S128x128 (SparseCore.rows ((lSlot p).view.read (Elt F) fa) hn hin) j))
    = A (tabAt I ((oBlk n).view.emb j))
  congr 1
  funext a
  apply Fin.ext
  match a with
  | 0 =>
    show 0 + 1 * (Shape.Gathers.idx gathers_S7040x128_S128x128 (SparseCore.rows ((lSlot p).view.read (Elt F) fa) hn hin) j (gathers_S7040x128_S128x128).axis).val
      = (I (ixAt ((oBlk n).view.emb j))).toNat % 7040
    rw [Shape.Gathers.idx_axis, Nat.mod_eq_of_lt (hI _)]
    show 0 + 1 * ((lSlot p).view.read (Elt F) fa (S128.rowMajor.symm ((j 0 : Fin 128).cast hn.symm))).toNat = _
    rw [list_read n p I fa hfa, Nat.zero_add, Nat.one_mul]
    congr 2
    funext b
    apply Fin.ext
    match b with
    | 0 => exact (Nat.lt_one_iff.mp (Fin.isLt (_ : Fin 1))).trans (Nat.lt_one_iff.mp (Fin.isLt (_ : Fin 1))).symm
    | 1 =>
      show 128 * n.val + 1 * (0 + 1 * (Shape.reshapeEquiv (s := S1x128) (s' := S128) (squeezes_S1x128_S128).numel_eq (S128.rowMajor.symm ((j 0 : Fin 128).cast hn.symm)) 1).val)
        = 128 * n.val + 1 * (j 0).val
      rw [list_ix]
      show 128 * n.val + 1 * (0 + 1 * (j 0).val) = 128 * n.val + 1 * (j 0).val
      omega
  | 1 =>
    show 0 + 1 * (Shape.Gathers.idx gathers_S7040x128_S128x128 (SparseCore.rows ((lSlot p).view.read (Elt F) fa) hn hin) j 1).val = 0 + 1 * (j 1).val
    rw [Shape.Gathers.idx_of_ne _ _ _ _ (show ((1 : Fin S7040x128.rank)).val ≠ 0 by decide)]
    rfl

/-- A block written with what it is to hold agrees with the final contents there. -/
theorem write_blk (n : Fin 512) (f g : S65536x128.Idx → Elt F .f32) :
    ∀ x ∈ (oBlk n).view.set, (oBlk n).view.write (Elt F) f ((oBlk n).view.read (Elt F) g) Finset.univ x = g x := by
  intro x hx
  obtain ⟨y, -, rfl⟩ := Finset.mem_map.mp hx
  rw [View.write_emb_of_mem _ _ (Finset.mem_univ y), View.read_apply]
  rfl

end Cert.Proof.K

end
-- ==== Proof.Steps.lean ====
/-
  One step lemma per transfer of the SparseCore kernel, each stated at a printed memref equal to a named
  block or slot: the index fetch, the gather, the write-out, and the waits.
-/
module

public import proofs.«01_k».proof.Proof.Setup

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The tile's processor. -/
abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- The tile's number of the thirty-two, and its blocks. -/
def tileNo (L : grid1.Coords) : Fin 32 := ⟨16 * (L 0).val + (L 1).val, by
  have h0 : (L 0).val < 2 := (L 0).isLt
  have h1 : (L 1).val < 16 := (L 1).isLt
  omega⟩
def blk (w : Fin 32) (t : Fin 16) : Fin 512 := ⟨16 * w.val + t.val, by omega⟩

theorem blk_off (L : grid1.Coords) (t : Fin 16) : 128 * (blk (tileNo L) t).val = base L + 128 * t.val := by
  simp only [blk, tileNo, base]; omega

/-- The table's share a tile holds. -/
abbrev tq (w : Fin 32) : PosShare TreeShare := pieceOf fullShare 32 (by decide) w

abbrev iPts (d : Dev nD) (n : Fin 512) (I : Buf (Elt F) (iLoc d)) : sProp 𝕄 := iLoc d ↦[iSet n]{fullShare} I
abbrev oPts (d : Dev nD) (n : Fin 512) (f : Buf (Elt F) (oLoc d)) : sProp 𝕄 := oLoc d ↦[oSet n]{fullShare} f
abbrev tPts (d : Dev nD) (w : Fin 32) (A : Buf (Elt F) (tLoc d)) : sProp 𝕄 := tLoc d ↦{tq w} A

abbrev aLoc (d : Dev nD) (L : grid1.Coords) : Loc nD τ sig := (thr d L).loc cc1_scoped0
abbrev bLoc (d : Dev nD) (L : grid1.Coords) : Loc nD τ sig := (thr d L).loc cc1_scoped2
abbrev aPts (d : Dev nD) (L : grid1.Coords) (p : Fin 2) (f : Buf (Elt F) (aLoc d L)) : sProp 𝕄 :=
  aLoc d L ↦[(aSlot p).view.set]{fullShare} f
abbrev bPts (d : Dev nD) (L : grid1.Coords) (p : Fin 2) (f : Buf (Elt F) (bLoc d L)) : sProp 𝕄 :=
  bLoc d L ↦[(bSlot p).view.set]{fullShare} f

/-- What one fetch, one gather and one write-out credit their semaphores with. -/
abbrev NA : ℕ := (aSlot 0).view.dmaCredit
abbrev NB : ℕ := (bSlot 0).view.dmaCredit
abbrev NO : ℕ := (oBlk 0).view.dmaCredit
theorem creditA (p : Fin 2) : (aSlot p).view.dmaCredit = NA := rfl
theorem creditB (p : Fin 2) : (bSlot p).view.dmaCredit = NB := rfl
theorem creditO (n : Fin 512) : (oBlk n).view.dmaCredit = NO := rfl
theorem NA_pos : 0 < NA := View.dmaCredit_pos _ (by decide)
theorem NO_pos : 0 < NO := View.dmaCredit_pos _ (by decide)

section
variable (d : Dev nD) (L : grid1.Coords) (I : Buf (Elt F) (iLoc d)) (A : Buf (Elt F) (tLoc d))

/-- Slot `p` of the index scratch holding the index row's block `n`. -/
abbrev aHas (n : Fin 512) (p : Fin 2) : sProp 𝕄 :=
  iprop(∃ fa, ⌜(aSlot p).view.read (Elt F) fa = (iBlk n).view.read (Elt F) I⌝ ∗ aPts d L p fa)
/-- Slot `p` of the row scratch holding the output's block `n`. -/
abbrev bHas (n : Fin 512) (p : Fin 2) : sProp 𝕄 :=
  iprop(∃ fb, ⌜(bSlot p).view.read (Elt F) fb = (oBlk n).view.read (Elt F) (gath I A)⌝ ∗ bPts d L p fb)
/-- What a fetch, a gather and a write-out hand back at their waits. -/
abbrev DI (n : Fin 512) (p : Fin 2) : sProp 𝕄 := iprop(aHas d L I n p ∗ iPts d n I)
abbrev DG (n : Fin 512) (p : Fin 2) : sProp 𝕄 := iprop(bHas d L I A n p ∗ tPts d (tileNo L) A ∗ (∃ fa, aPts d L p fa))
abbrev DO (n : Fin 512) (p : Fin 2) : sProp 𝕄 := iprop(oPts d n (gath I A) ∗ ∃ fb, bPts d L p fb)
abbrev FI (n : Fin 512) (p : Fin 2) : sProp 𝕄 := Transfers.Flight countersEmb (thr d L) (.dma (semA p)) (default : HIx 1) NA (DI d L I n p)
abbrev FG (n : Fin 512) (p : Fin 2) : sProp 𝕄 := Transfers.Flight countersEmb (thr d L) (.dma semG) (default : HIx 1) NB (DG d L I A n p)
abbrev FO (n : Fin 512) (p : Fin 2) : sProp 𝕄 := Transfers.Flight countersEmb (thr d L) (.dma (semB p)) (default : HIx 1) NO (DO d L I A n p)

/-- The fetch of index block `n` into slot `p`. -/
theorem wp_fetch {α : Type} {Q : α → sProp 𝕄} {k : PUnit → Prog (TpuEff nD τ sig (Elt F) Λ₀ (thr d L).2) α}
    (n : Fin 512) (p : Fin 2) (fa : Buf (Elt F) (aLoc d L))
    {src : Memref sig .scVector .hbm S1x128 .i32} {dst : Memref sig .scVector .vmem S1x128 .i32} {sm : DmaSem sig}
    (e1 : src = iBlk n) (e2 : dst = aSlot p) (e3 : sm = semA p) {h1 h2 h3} :
    iprop(iPts d n I ∗ aPts d L p fa ∗ semVal (thr d L, .dma (semA p)) 0)
      ⊢ iprop((FI d L I n p -∗ wp frame (wpE (defs₀ (F := F)) 𝒱₀ (thr d L) none) Set.univ (k ⟨⟩) Q)
        -∗ wp frame (wpE (defs₀ (F := F)) 𝒱₀ (thr d L) none) Set.univ (.op (.enqueueDma src (.here dst) (.dma sm) h1 h2 h3) k) Q) := by
  subst e1 e2 e3
  iintro ⟨Hi, Ha, Hs⟩ Hk
  iapply (Transfers.wp_dmaLocal countersEmb 𝒱₀ (thr d L) none (src := iBlk n) (dst := aSlot p) (q := fullShare) (fs := I) (fd := fa)
      (Sd := (aSlot p).view.set) (default : HIx 1) NA (show (aSlot p).view.amount (.dma (semA p)) = NA from creditA p) NA_pos (Finset.Subset.refl _)) $$ [Hi Ha Hs]
  · isplitl [Hi]
    · rw [set_iBlk]; iexact Hi
    isplitl [Ha]; · iexact Ha
    iexact Hs
  iintro Hf
  iapply Hk
  iapply (Transfers.Flight_mono countersEmb (thr d L) (?_ : _ ⊢ DI d L I n p)) $$ Hf
  iintro ⟨Ha, Hi⟩
  isplitl [Ha]
  · iexists _
    isplitr; swap; · iexact Ha
    ipureintro
    exact View.read_write_univ _ _
  · rw [set_iBlk]; iexact Hi

/-- The write-out of slot `p` to the output's block `n`. -/
theorem wp_out {α : Type} {Q : α → sProp 𝕄} {k : PUnit → Prog (TpuEff nD τ sig (Elt F) Λ₀ (thr d L).2) α}
    (n : Fin 512) (p : Fin 2) (fo : Buf (Elt F) (oLoc d))
    {src : Memref sig .scVector .vmem S128x128 .f32} {dst : Memref sig .scVector .hbm S128x128 .f32} {sm : DmaSem sig}
    (e1 : src = bSlot p) (e2 : dst = oBlk n) (e3 : sm = semB p) {h1 h2 h3} :
    iprop(bHas d L I A n p ∗ oPts d n fo ∗ semVal (thr d L, .dma (semB p)) 0)
      ⊢ iprop((FO d L I A n p -∗ wp frame (wpE (defs₀ (F := F)) 𝒱₀ (thr d L) none) Set.univ (k ⟨⟩) Q)
        -∗ wp frame (wpE (defs₀ (F := F)) 𝒱₀ (thr d L) none) Set.univ (.op (.enqueueDma src (.here dst) (.dma sm) h1 h2 h3) k) Q) := by
  subst e1 e2 e3
  iintro ⟨⟨%fb, %hfb, Hb⟩, Ho, Hs⟩ Hk
  iapply (Transfers.wp_dmaLocal countersEmb 𝒱₀ (thr d L) none (src := bSlot p) (dst := oBlk n) (q := fullShare) (fs := fb) (fd := fo)
      (Sd := (oBlk n).view.set) (default : HIx 1) NO (show (oBlk n).view.amount (.dma (semB p)) = NO from creditO n) NO_pos (Finset.Subset.refl _)) $$ [Hb Ho Hs]
  · isplitl [Hb]; · iexact Hb
    isplitl [Ho]
    · rw [set_oBlk]; iexact Ho
    iexact Hs
  iintro Hf
  iapply Hk
  iapply (Transfers.Flight_mono countersEmb (thr d L) (?_ : _ ⊢ DO d L I A n p)) $$ Hf
  iintro ⟨Ho, Hb⟩
  isplitl [Ho]
  · iapply (Entails.of_eq (show (oLoc d ↦[(oBlk n).view.set]{fullShare} ((oBlk n).view.write (Elt F) fo ((bSlot p).view.read (Elt F) fb) Finset.univ) : sProp 𝕄)
      = oPts d n (gath I A) by
        rw [hfb, pointsTo_congr (write_blk n fo (gath I A)), set_oBlk])) $$ Ho
  · iexists fb; iexact Hb

theorem set_tAll : (tAll).view.set = Finset.univ := by
  show (tV.view.slice (Rect.unit (s := S7040x128) ![0, 0] S7040x128.size inb_S7040x128_S7040x128_0_0)).set = Finset.univ
  rw [View.set_slice]
  refine Finset.map_refl.trans (Finset.eq_univ_iff_forall.mpr fun x => Rect.mem_set_unit.mpr fun a => ?_)
  match a with
  | 0 => exact ⟨Nat.zero_le _, (x 0).isLt⟩
  | 1 => exact ⟨Nat.zero_le _, (x 1).isLt⟩
theorem set_lSlot (p : Fin 2) : (lSlot p).view.set = (aSlot p).view.set := by
  show (((aSlot p).view.slice (Rect.unit (s := S1x128) ![0, 0] S1x128.size inb_S1x128_S1x128_0_0)).reshape S128 (squeezes_S1x128_S128).numel_eq).set = _
  rw [View.set_reshape, View.set_slice, show (Rect.unit (s := S1x128) ![0, 0] S1x128.size inb_S1x128_S1x128_0_0).set = Finset.univ from
    Finset.eq_univ_iff_forall.mpr fun x => Rect.mem_set_unit.mpr fun a => by
      match a with
      | 0 => exact ⟨Nat.zero_le _, (x 0).isLt⟩
      | 1 => exact ⟨Nat.zero_le _, (x 1).isLt⟩]
  rfl

/-- The gather of the rows slot `p` lists into slot `p` of the row scratch, the table read by a share. -/
theorem wp_gather {α : Type} {Q : α → sProp 𝕄} {k : PUnit → Prog (TpuEff nD τ sig (Elt F) Λ₀ (thr d L).2) α}
    (hI : ∀ x, (I x).toNat < 7040) (n : Fin 512) (p : Fin 2) (fb : Buf (Elt F) (bLoc d L))
    {src : Memref sig .scVector .hbm S7040x128 .f32} {dst : Memref sig .scVector .vmem S128x128 .f32} {offs : Memref sig .scVector .vmem S128 .i32}
    (e1 : src = tAll) (e2 : dst = bSlot p) (e3 : offs = lSlot p) {hp hn h1 h2 h3 h4} :
    iprop(tPts d (tileNo L) A ∗ bPts d L p fb ∗ aHas d L I n p ∗ semVal (thr d L, .dma semG) 0)
      ⊢ iprop((FG d L I A n p -∗ wp frame (wpE (defs₀ (F := F)) 𝒱₀ (thr d L) none) Set.univ (k ⟨⟩) Q)
        -∗ wp frame (wpE (defs₀ (F := F)) 𝒱₀ (thr d L) none) Set.univ
          (SparseCore.enqueueIndirectGather hp src dst gathers_S7040x128_S128x128 offs hn semG h1 h2 h3 h4 >>= k) Q) := by
  subst e1 e2 e3
  iintro ⟨Ht, Hb, ⟨%fa, %hfa, Ha⟩, Hs⟩ Hk
  have hN : ∀ h : S7040x128.Gathers 0 S128x128, ∑ j, ((bSlot p).slice (S128x128.rowRect h.axis' j) (S128x128.stride_rowRect h.axis' j)).view.dmaCredit
      = NB := by intro h; exact (SparseCore.sum_rowCredit_eq_dmaCredit _ _ (fun _ => rfl)).trans (creditB p)
  iapply (SparseCore.wp_indirectGatherLocal countersEmb 𝒱₀ (thr d L) none (hg := gathers_S7040x128_S128x128) (fs := A) (fd := fb) (fo := fa) (default : HIx 1)
      NB (hN _) (by decide) (list_in n p I hI fa hfa)) $$ [Ht Hb Ha Hs]
  · isplitl [Ht]
    · rw [set_tAll]; iexact Ht
    isplitl [Hb]; · iexact Hb
    isplitl [Ha]
    · rw [set_lSlot]; iexact Ha
    iexact Hs
  iintro Hf
  iapply Hk
  iapply (Transfers.Flight_mono countersEmb (thr d L) (?_ : _ ⊢ DG d L I A n p)) $$ Hf
  iintro ⟨Hb, Ht, Ha⟩
  isplitl [Hb]
  · iexists _
    isplitr; swap; · iexact Hb
    ipureintro
    rw [View.read_write_univ]
    exact gather_blk n p I A hI fa hfa _ _
  isplitl [Ht]
  · rw [set_tAll]; iexact Ht
  · iexists fa; rw [set_lSlot]; iexact Ha

/-- What the tile owes throughout, its own waits recorded at no index. -/
abbrev owing (O : CellTallies nD τ sig (HIx 1)) (W : Waits sig (HIx 1)) : sProp 𝕄 :=
  iprop(∃ W', ⌜∀ p ∈ W', p ∈ W ∨ p.2 = none⌝ ∗ owes (thr d L) O W')

/-- A wait for a transfer in flight: what it delivers, and its semaphore at zero. -/
theorem wp_wait {α : Type} {Q : α → sProp 𝕄} {k : PUnit → Prog (TpuEff nD τ sig (Elt F) Λ₀ (thr d L).2) α}
    (O : CellTallies nD τ sig (HIx 1)) (W : Waits sig (HIx 1)) (hO : ∀ g, O g none = 0) (sm' : DmaSem sig) (N : ℕ) (P : sProp 𝕄)
    {s : Shape} {e : EltTy} {b : Ref sig .scVector} {sm : DmaSem sig} (e3 : sm = sm') {hk} (hN : b.dmaCredit s e = N) :
    iprop(levAts (K (F := F)).L (K (F := F)).lev ∗ Transfers.Flight countersEmb (thr d L) (.dma sm') (default : HIx 1) N P ∗ owing d L O W)
      ⊢ iprop((iprop(P ∗ semVal (thr d L, .dma sm') 0 ∗ owing d L O W) -∗ wp frame (wpE (defs₀ (F := F)) 𝒱₀ (thr d L) none) Set.univ (k ⟨⟩) Q)
        -∗ wp frame (wpE (defs₀ (F := F)) 𝒱₀ (thr d L) none) Set.univ (.op (.waitDma sm b s e hk) k) Q) := by
  subst e3
  iintro ⟨#Hlv, Hf, ⟨%W', %hW', HO⟩⟩ Hk
  ihave Hmw := (show levAts (K (F := F)).L (K (F := F)).lev ⊢ Transfers.MayWaits (thr d L) (default : HIx 1) O from
    (K (F := F)).mayWaits_none (thr := thr d L) hO) $$ Hlv
  iapply (Transfers.wp_waitLocalOSized countersEmb 𝒱₀ (thr d L) none (default : HIx 1) hN) $$ [Hf HO Hmw]
  · isplitl [Hf]; · iexact Hf
    isplitl [HO]; · iexact HO
    iapply (Transfers.MayWaits.elim (SemLoc.dma sm)) $$ Hmw
  iintro ⟨HP, Hs, HO⟩
  iapply Hk
  isplitl [HP]; · iexact HP
  isplitl [Hs]; · iexact Hs
  iexists _
  isplitr; swap; · iexact HO
  ipureintro
  intro p hp
  rcases Finset.mem_insert.mp hp with hp | hp
  · exact .inr (hp ▸ rfl)
  · exact hW' p hp

end

end Cert.Proof.K

end
-- ==== Proof.Trip.lean ====
/-
  One trip of the SparseCore loop.

  Before trip `t` the fetch of index block `t` is in flight into slot `t % 2`, the write-out of block `t - 1`
  is in flight from slot `(t + 1) % 2`, and the other slot of each scratch buffer is free.  The trip starts
  the fetch of block `t + 1`, waits for block `t`'s, gathers its rows, starts their write-out and waits for
  the one before.
-/
module

public import proofs.«01_k».proof.Proof.Steps

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The blocks from a number on, and below one -/

def fromB (n : ℕ) : Finset (Fin 16) := Finset.univ.filter fun t : Fin 16 => n ≤ t.val
def belowB (n : ℕ) : Finset (Fin 16) := Finset.univ.filter fun t : Fin 16 => t.val < n
theorem fromB_zero : fromB 0 = Finset.univ := by decide
theorem fromB_of_le {n : ℕ} (h : 16 ≤ n) : fromB n = ∅ :=
  Finset.filter_eq_empty_iff.mpr fun t _ h' => absurd (lt_of_lt_of_le t.isLt h) (Nat.not_lt.mpr h')
theorem belowB_zero : belowB 0 = ∅ := by decide
theorem belowB_of_le {n : ℕ} (h : 16 ≤ n) : belowB n = Finset.univ :=
  Finset.filter_eq_self.mpr fun t _ => lt_of_lt_of_le t.isLt h
theorem fromB_succ (n : ℕ) (h : n < 16) : fromB n = insert ⟨n, h⟩ (fromB (n + 1)) := by revert h n; decide
theorem notMem_fromB (n : ℕ) (h : n < 16) : (⟨n, h⟩ : Fin 16) ∉ fromB (n + 1) := by revert h n; decide
theorem belowB_succ (n : ℕ) (h : n < 16) : belowB (n + 1) = insert ⟨n, h⟩ (belowB n) := by revert h n; decide
theorem notMem_belowB (n : ℕ) (h : n < 16) : (⟨n, h⟩ : Fin 16) ∉ belowB n := by revert h n; decide

theorem bigSep_fromB (n : ℕ) (h : n < 16) (Φ : Fin 16 → sProp 𝕄) :
    bigSep (fromB n) Φ = iprop(Φ ⟨n, h⟩ ∗ bigSep (fromB (n + 1)) Φ) := by
  rw [fromB_succ n h, SparseCore.bigSep_insert' (notMem_fromB n h)]
theorem bigSep_belowB (n : ℕ) (h : n < 16) (Φ : Fin 16 → sProp 𝕄) :
    bigSep (belowB (n + 1)) Φ = iprop(Φ ⟨n, h⟩ ∗ bigSep (belowB n) Φ) := by
  rw [belowB_succ n h, SparseCore.bigSep_insert' (notMem_belowB n h)]
attribute [irreducible] fromB belowB

/-! ## Slots by trip -/

/-- The slot of block `k`. -/
def sl (k : ℕ) : Fin 2 := ⟨k % 2, Nat.mod_lt _ (by decide)⟩
theorem sl_two (k : ℕ) : sl (k + 2) = sl k := Fin.ext (by simp [sl])

section
variable (d : Dev nD) (L : grid1.Coords) (I : Buf (Elt F) (iLoc d)) (A : Buf (Elt F) (tLoc d))
  (O : CellTallies nD τ sig (HIx 1)) (W : Waits sig (HIx 1))

/-- A slot with nothing in flight: its semaphore at zero, its half of the scratch at some contents. -/
abbrev freeA (p : Fin 2) : sProp 𝕄 := iprop(semVal (thr d L, .dma (semA p)) 0 ∗ ∃ fa, aPts d L p fa)
abbrev freeB (p : Fin 2) : sProp 𝕄 := iprop(semVal (thr d L, .dma (semB p)) 0 ∗ ∃ fb, bPts d L p fb)

def sIn (t : ℕ) : sProp 𝕄 :=
  if h : t < 16 then FI d L I (blk (tileNo L) ⟨t, h⟩) (sl t) else freeA d L (sl t)
def sOut (t : ℕ) : sProp 𝕄 :=
  if h : 1 ≤ t ∧ t - 1 < 16 then FO d L I A (blk (tileNo L) ⟨t - 1, h.2⟩) (sl (t + 1)) else freeB d L (sl (t + 1))

/-- The tile's state before trip `t`. -/
def IV (t : ℕ) : sProp 𝕄 :=
  iprop(levAts (K (F := F)).L (K (F := F)).lev ∗ owing d L O W
    ∗ sIn d L I t ∗ freeA d L (sl (t + 1)) ∗ sOut d L I A t ∗ freeB d L (sl t)
    ∗ semVal (thr d L, .dma semG) 0 ∗ tPts d (tileNo L) A
    ∗ (bigSep (fromB (t + 1)) fun b => iPts d (blk (tileNo L) b) I) ∗ (bigSep (belowB t) fun b => iPts d (blk (tileNo L) b) I)
    ∗ (bigSep (fromB t) fun b => iprop(∃ f, oPts d (blk (tileNo L) b) f))
    ∗ (bigSep (belowB (t - 1)) fun b => oPts d (blk (tileNo L) b) (gath I A)))

theorem sIn_of_lt (t : ℕ) (h : t < 16) : sIn d L I t = FI d L I (blk (tileNo L) ⟨t, h⟩) (sl t) := dif_pos h
theorem sIn_of_le (t : ℕ) (h : ¬ t < 16) : sIn d L I t = freeA d L (sl t) := dif_neg h
theorem sOut_of_pos (t : ℕ) (h : 1 ≤ t) (h' : t - 1 < 16) : sOut d L I A t = FO d L I A (blk (tileNo L) ⟨t - 1, h'⟩) (sl (t + 1)) :=
  dif_pos ⟨h, h'⟩
theorem sOut_zero : sOut d L I A 0 = freeB d L (sl 1) := dif_neg (by omega)
theorem sOut_succ (t : ℕ) (h : t < 16) : sOut d L I A (t + 1) = FO d L I A (blk (tileNo L) ⟨t, h⟩) (sl t) := by
  rw [sOut_of_pos d L I A (t + 1) (by omega) (by omega), sl_two]; rfl

/-- The kernel's arguments, as a tile of the call gets them. -/
abbrev tripBody (t : Fin k1_t1_loop.trips) :
    BitVec 32 × BitVec 32 × BitVec 32 × BitVec 32 × BitVec 32 →
      Prog (TpuEff nD τ sig (Elt F) Λ₀ (thr d L).2) (BitVec 32 × BitVec 32 × BitVec 32 × BitVec 32 × BitVec 32) :=
  k1_t1_body L tV (Memref.isWhole_whole _) iV (Memref.isWhole_whole _) oV (Memref.isWhole_whole _) aV (Memref.isWhole_whole _) cc1_scoped1
    bV (Memref.isWhole_whole _) cc1_scoped3 cc1_scoped4 (w4 L) t

/-- What the first part of a trip hands to the rest, once its last word is known. -/
abbrev handed (t : Fin k1_t1_loop.trips) (v96 : BitVec 1) :
    Σ' (_ : k1_chk3 (w7 t.val)) (_ : k1_chk2 (w7 t.val)) (_ : k1_chk1 L t (w6 t.val) (w7 t.val) (w7 t.val) (w9 t.val) (w10 t.val))
      (_ : BitVec 32) (_ : BitVec 1) (_ : BitVec 1) (_ : BitVec 32) (_ : BitVec 32) (_ : BitVec 32) (_ : BitVec 32), BitVec 1 :=
  let arg5 : BitVec 32 := Scf.iv 0#32 1#32 t
  let v66 := Scalar.addi (w10 t.val) (w4 L)
  let v68 := Scalar.select 1#1 (Scalar.subi (w10 t.val) 1#32) (w10 t.val)
  let v73 := Scalar.select 1#1 (Scalar.addi (w10 t.val) 1#32) (w10 t.val)
  let v76 := Scalar.addi (Scalar.select (Scalar.cmpi .eq v73 16#32) 0#32 v73) (w4 L)
  ⟨chk3_ok t, chk2_ok t, chk1_ok L t, arg5, Scalar.cmpi .eq arg5 0#32, Scalar.cmpi .eq arg5 15#32, v66,
    Scalar.addi (Scalar.select (Scalar.cmpi .eq v68 4294967295#32) 15#32 v68) (w4 L), v76,
    Scalar.select (Scalar.andi (Scalar.andi (Scalar.cmpi .ne v66 v76) (Scalar.xori (Scalar.cmpi .sge arg5 15#32) 1#1)) 1#1) (Scalar.addi (w6 t.val) 1#32) (w6 t.val), v96⟩

set_option maxHeartbeats 2000000 in
/-- The trip's first part: the fetch of the next index block, if there is one. -/
theorem trip_fetch (t : Fin k1_t1_loop.trips) :
    iprop(freeA d L (sl (t.val + 1)) ∗ bigSep (fromB (t.val + 1)) fun b => iPts d (blk (tileNo L) b) I)
      ⊢ wp frame (wpE (defs₀ (F := F)) 𝒱₀ (thr d L) none) Set.univ
      (k1_part1 (F := F) L tV (Memref.isWhole_whole _) iV (Memref.isWhole_whole _) oV (Memref.isWhole_whole _) aV (Memref.isWhole_whole _) cc1_scoped1
        bV (Memref.isWhole_whole _) cc1_scoped3 cc1_scoped4 (w4 L) 0#32 1#32 t (w6 t.val) (w7 t.val) (w7 t.val) (w9 t.val) (w10 t.val))
      fun x => iprop(⌜∃ v96, x = handed L t v96⌝ ∗ sIn d L I (t.val + 1) ∗ bigSep (fromB (t.val + 2)) fun b => iPts d (blk (tileNo L) b) I) := by
  have ht : t.val < 16 := t.isLt
  simp only [k1_part1_eq_skeleton]; unfold k1_part1_skel
  simp only [Prog.lift, Prog.bind_op, Prog.bind_ret, Prog.pure_eq_ret, Prog.bind_assoc]
  rw [wp_assume_of _ _ _ _ (chk3_ok t), wp_assume_of _ _ _ _ (chk2_ok t), wp_assume_of _ _ _ _ (chk1_ok L t)]
  by_cases h : t.val < 15
  · rw [dif_pos ((cond1_iff L t).mpr h)]
    simp only [Prog.lift, Prog.bind_op, Prog.bind_ret, Prog.pure_eq_ret, Prog.bind_assoc]
    rw [bigSep_fromB (t.val + 1) (by omega)]
    iintro ⟨⟨Hs, ⟨%fa, Ha⟩⟩, Hi, His⟩
    iapply (wp_fetch d L I (blk (tileNo L) ⟨t.val + 1, by omega⟩) (sl (t.val + 1)) fa
      (iBlk_of _ ((off5_val L t h).trans (by rw [blk_off])) _) (aSlot_of _ (off4_val t) _) (semA_of _ (off6_val t) _)) $$ [Hi Ha Hs]
    · isplitl [Hi]; · iexact Hi
      isplitl [Ha]; · iexact Ha
      iexact Hs
    iintro Hf
    rw [wp_ret]; imodintro
    isplitr
    · ipureintro; exact ⟨_, rfl⟩
    isplitl [Hf]
    · rw [sIn_of_lt d L I (t.val + 1) (by omega)]; iexact Hf
    iexact His
  · rw [dif_neg fun e => h ((cond1_iff L t).mp e)]
    simp only [Prog.bind_ret, Prog.pure_eq_ret]
    rw [wp_ret, sIn_of_le d L I (t.val + 1) (by omega), fromB_of_le (show 16 ≤ t.val + 1 by omega), fromB_of_le (show 16 ≤ t.val + 2 by omega)]
    iintro ⟨Hf, Hi⟩
    imodintro
    isplitr
    · ipureintro; exact ⟨_, rfl⟩
    isplitl [Hf]; · iexact Hf
    iexact Hi

set_option maxHeartbeats 2000000 in
/-- A whole trip. -/
theorem trip (hI : ∀ x, (I x).toNat < 7040) (hO : ∀ g, O g none = 0) (t : Fin k1_t1_loop.trips) :
    IV d L I A O W t.val ⊢ wp frame (wpE (defs₀ (F := F)) 𝒱₀ (thr d L) none) Set.univ
      (tripBody (F := F) d L t (words t.val)) fun acc => iprop(⌜acc = words (t.val + 1)⌝ ∗ IV d L I A O W (t.val + 1)) := by
  have ht : t.val < 16 := t.isLt
  rw [← words_step L t]
  unfold tripBody k1_t1_body words
  dsimp only
  rw [wp_bind]
  unfold IV
  iintro ⟨#Hlv, HO, Hin, Hfa, Hout, ⟨HsB, ⟨%fb, Hb⟩⟩, HsG, Ht, Hif, Hib, Hof, Hob⟩
  iapply (wp_wand _ _ _) $$ [Hfa Hif]
  · iapply (trip_fetch d L I t) $$ [Hfa Hif]
    isplitl [Hfa]; · iexact Hfa
    iexact Hif
  iintro %x ⟨%hx, Hin1, Hif⟩
  obtain ⟨v96, rfl⟩ := hx
  simp only [k1_part2_eq_skeleton]; unfold k1_part2_skel
  dsimp only [handed]
  simp only [Prog.lift, Prog.bind_op, Prog.bind_ret, Prog.pure_eq_ret, Prog.bind_assoc, ite_self]
  rw [dif_pos (cond2_true L t)]
  simp only [Prog.lift, Prog.bind_op, Prog.bind_ret, Prog.pure_eq_ret, Prog.bind_assoc]
  -- the wait for this block's fetch: its words in the slot
  ihave Hin' := (Entails.of_eq (sIn_of_lt d L I t.val ht)) $$ Hin
  iapply (wp_wait d L O W hO (semA (sl t.val)) NA (DI d L I (blk (tileNo L) ⟨t.val, ht⟩) (sl t.val)) (semA_of _ (off9_val t) _) (by exact rfl)) $$ [Hin' HO]
  · isplitr; · iexact Hlv
    isplitl [Hin']; · iexact Hin'
    iexact HO
  iintro ⟨⟨Ha, Hi⟩, HsA, HO⟩
  -- the gather of the rows it names, and its wait
  iapply (wp_gather d L I A hI (blk (tileNo L) ⟨t.val, ht⟩) (sl t.val) fb rfl (bSlot_of _ (off10_val t) _)
    (show _ = lSlot (sl t.val) by rw [aSlot_of (sl t.val) (off11_val t)])) $$ [Ht Hb Ha HsG]
  · isplitl [Ht]; · iexact Ht
    isplitl [Hb]; · iexact Hb
    isplitl [Ha]; · iexact Ha
    iexact HsG
  iintro HG
  simp only [SparseCore.waitIndirectGather, Prog.lift, Prog.bind_op, Prog.bind_ret, Prog.pure_eq_ret, Prog.bind_assoc]
  iapply (wp_wait d L O W hO semG NB (DG d L I A (blk (tileNo L) ⟨t.val, ht⟩) (sl t.val)) rfl (by exact rfl)) $$ [HG HO]
  · isplitr; · iexact Hlv
    isplitl [HG]; · iexact HG
    iexact HO
  iintro ⟨⟨Hb, Ht, Ha⟩, HsG, HO⟩
  -- the write-out of the rows
  rw [dif_pos (cond5_true L t)]
  simp only [Prog.lift, Prog.bind_op, Prog.bind_ret, Prog.pure_eq_ret, Prog.bind_assoc]
  ihave Hof' := (Entails.of_eq (bigSep_fromB t.val ht fun b => iprop(∃ f, oPts d (blk (tileNo L) b) f))) $$ Hof
  icases Hof' with ⟨⟨%fo, Ho⟩, Hof⟩
  iapply (wp_out d L I A (blk (tileNo L) ⟨t.val, ht⟩) (sl t.val) fo (bSlot_of _ (off12_val t) _)
    (oBlk_of _ ((off13_val L t).trans (by rw [blk_off])) _) (semB_of _ (off14_val t) _)) $$ [Hb Ho HsB]
  · isplitl [Hb]; · iexact Hb
    isplitl [Ho]; · iexact Ho
    iexact HsB
  iintro HF
  have e1 : sl (t.val + 1 + 1) = sl t.val := sl_two t.val
  rw [e1, sOut_succ d L I A t.val ht, bigSep_belowB t.val ht]
  by_cases h : 0 < t.val
  · -- the wait for the write-out before
    rw [dif_pos ((cond7_iff L t).mpr h)]
    simp only [Prog.lift, Prog.bind_op, Prog.bind_ret, Prog.pure_eq_ret, Prog.bind_assoc]
    ihave Hout' := (Entails.of_eq (sOut_of_pos d L I A t.val h (by omega))) $$ Hout
    have e2 : (sl (t.val + 1)).val = (t.val - 1) % 2 := by show (t.val + 1) % 2 = _; omega
    iapply (wp_wait d L O W hO (semB (sl (t.val + 1))) NO (DO d L I A (blk (tileNo L) ⟨t.val - 1, by omega⟩) (sl (t.val + 1)))
      (semB_of _ ((off17_val t h).trans (by rw [e2])) _) (by exact rfl)) $$ [Hout' HO]
    · isplitr; · iexact Hlv
      isplitl [Hout']; · iexact Hout'
      iexact HO
    iintro ⟨⟨Ho, Hb⟩, HsB, HO⟩
    rw [wp_ret]; imodintro
    isplitr
    · ipureintro; rfl
    isplitr; · iexact Hlv
    isplitl [HO]; · iexact HO
    isplitl [Hin1]; · iexact Hin1
    isplitl [HsA Ha]
    · isplitl [HsA]; · iexact HsA
      iexact Ha
    isplitl [HF]; · iexact HF
    isplitl [HsB Hb]
    · isplitl [HsB]; · iexact HsB
      iexact Hb
    isplitl [HsG]; · iexact HsG
    isplitl [Ht]; · iexact Ht
    isplitl [Hif]; · iexact Hif
    isplitl [Hi Hib]
    · isplitl [Hi]; · iexact Hi
      iexact Hib
    isplitl [Hof]; · iexact Hof
    obtain ⟨n, hn⟩ : ∃ n, t.val = n + 1 := ⟨t.val - 1, by omega⟩
    rw [show t.val + 1 - 1 = (t.val - 1) + 1 by omega, bigSep_belowB (t.val - 1) (by omega)]
    isplitl [Ho]; · iexact Ho
    iexact Hob
  · -- the first trip: nothing to wait for
    have h0 : t.val = 0 := by omega
    rw [dif_neg fun e => h ((cond7_iff L t).mp e)]
    simp only [Prog.bind_ret, Prog.pure_eq_ret]
    rw [wp_ret]; imodintro
    ihave Hout' := (Entails.of_eq (show sOut d L I A t.val = freeB d L (sl (t.val + 1)) by rw [h0]; exact sOut_zero d L I A)) $$ Hout
    isplitr
    · ipureintro; rfl
    isplitr; · iexact Hlv
    isplitl [HO]; · iexact HO
    isplitl [Hin1]; · iexact Hin1
    isplitl [HsA Ha]
    · isplitl [HsA]; · iexact HsA
      iexact Ha
    isplitl [HF]; · iexact HF
    isplitl [Hout']; · iexact Hout'
    isplitl [HsG]; · iexact HsG
    isplitl [Ht]; · iexact Ht
    isplitl [Hif]; · iexact Hif
    isplitl [Hi Hib]
    · isplitl [Hi]; · iexact Hi
      iexact Hib
    isplitl [Hof]; · iexact Hof
    rw [show t.val + 1 - 1 = t.val - 1 by omega]
    iexact Hob

end

end Cert.Proof.K

end
-- ==== Proof.Tile.lean ====
/-
  One tile's whole task: the first fetch, the sixteen trips, and the wait for the last write-out.
-/
module

public import proofs.«01_k».proof.Proof.Trip
public import Idealize.ShloMosaic.Lib.Ring

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section
variable (d : Dev nD) (L : grid1.Coords) (I : Buf (Elt F) (iLoc d)) (A : Buf (Elt F) (tLoc d))
  (O : CellTallies nD τ sig (HIx 1)) (W : Waits sig (HIx 1))

/-- The kernel at the call's own buffers. -/
abbrev task (L : grid1.Coords) : Prog (TpuEff nD τ sig (Elt F) Λ₀ (.scVector (cV L) (jV L))) PUnit :=
  cc1_k L tV (Memref.isWhole_whole _) iV (Memref.isWhole_whole _) oV (Memref.isWhole_whole _) aV (Memref.isWhole_whole _) cc1_scoped1
    bV (Memref.isWhole_whole _) cc1_scoped3 cc1_scoped4

/-- What a tile holds of the call's operands: its blocks of the index row, its share of the table, and its
    blocks of the output, before and after. -/
def tileIn : sProp 𝕄 :=
  iprop((bigSep Finset.univ fun b => iPts d (blk (tileNo L) b) I) ∗ tPts d (tileNo L) A
    ∗ bigSep Finset.univ fun b => iprop(∃ f, oPts d (blk (tileNo L) b) f))
def tileOut : sProp 𝕄 :=
  iprop((bigSep Finset.univ fun b => iPts d (blk (tileNo L) b) I) ∗ tPts d (tileNo L) A
    ∗ bigSep Finset.univ fun b => oPts d (blk (tileNo L) b) (gath I A))

/-- The tile's scratch, nothing in flight. -/
abbrev idle : sProp 𝕄 :=
  iprop(freeA d L 0 ∗ freeA d L 1 ∗ freeB d L 0 ∗ freeB d L 1 ∗ semVal (thr d L, .dma semG) 0)

set_option maxHeartbeats 2000000 in
theorem tile_run (hI : ∀ x, (I x).toNat < 7040) (hO : ∀ g, O g none = 0) :
    iprop(levAts (K (F := F)).L (K (F := F)).lev ∗ owing d L O W ∗ idle d L ∗ tileIn d L I A)
      ⊢ wp frame (wpE (defs₀ (F := F)) 𝒱₀ (thr d L) none) Set.univ (task (F := F) L)
          fun _ => iprop(owing d L O W ∗ idle d L ∗ tileOut d L I A) := by
  unfold task tileIn tileOut
  simp only [cc1_k_eq_skeleton]; unfold cc1_k_skel
  simp only [k1_part3_eq_skeleton, k1_part4_eq_skeleton]; unfold k1_part3_skel k1_part4_skel
  simp only [Prog.lift, Prog.bind_op, Prog.bind_ret, Prog.pure_eq_ret, Prog.bind_assoc]
  iintro ⟨#Hlv, HO, ⟨⟨HsA0, ⟨%fa, Ha0⟩⟩, HfA1, HfB0, HfB1, HsG⟩, Hi, Ht, Ho⟩
  ihave Hi' := (Entails.of_eq (show (bigSep Finset.univ fun b => iPts d (blk (tileNo L) b) I)
    = iprop(iPts d (blk (tileNo L) ⟨0, by decide⟩) I ∗ bigSep (fromB 1) fun b => iPts d (blk (tileNo L) b) I) by
      rw [← fromB_zero, bigSep_fromB 0 (by decide)])) $$ Hi
  icases Hi' with ⟨Hi0, Hi⟩
  iapply (wp_fetch d L I (blk (tileNo L) ⟨0, by decide⟩) 0 fa
    (iBlk_of _ ((off2_val L).trans (by rw [blk_off])) _) (aSlot_of _ k1_off1_eq _) (semA_of _ k1_off3_eq _)) $$ [Hi0 Ha0 HsA0]
  · isplitl [Hi0]; · iexact Hi0
    isplitl [Ha0]; · iexact Ha0
    iexact HsA0
  iintro Hf
  iapply (Scf.wp_for_bind _ _ _ _ _ _ _ _ _ (fun t acc => iprop(⌜acc = words t⌝ ∗ IV d L I A O W t)) ?region) $$ [HO HfA1 HfB0 HfB1 HsG Hi Ht Ho Hf]
  case region =>
    intro t acc
    iintro ⟨%e, H⟩
    subst e
    iapply (trip d L I A O W hI hO t) $$ H
  · isplitr
    · ipureintro; rfl
    unfold IV
    rw [sIn_of_lt d L I 0 (by decide), sOut_zero, belowB_zero, bigSep_empty, bigSep_empty, fromB_zero]
    isplitr; · iexact Hlv
    isplitl [HO]; · iexact HO
    isplitl [Hf]; · iexact Hf
    isplitl [HfA1]; · iexact HfA1
    isplitl [HfB1]; · iexact HfB1
    isplitl [HfB0]; · iexact HfB0
    isplitl [HsG]; · iexact HsG
    isplitl [Ht]; · iexact Ht
    isplitl [Hi]; · iexact Hi
    isplitr; · iempintro
    isplitl [Ho]; · iexact Ho
    iempintro
  iintro %acc ⟨%e, H⟩
  obtain rfl : acc = words 16 := e
  dsimp only [words]
  rw [wp_assume_of _ _ _ _ (chk5_ok L), wp_assume_of _ _ _ _ chk4_ok]
  ihave H' := (Entails.of_eq (show IV d L I A O W k1_t1_loop.trips = iprop(levAts (K (F := F)).L (K (F := F)).lev ∗ owing d L O W
      ∗ freeA d L 0 ∗ freeA d L 1 ∗ FO d L I A (blk (tileNo L) ⟨15, by decide⟩) 1 ∗ freeB d L 0
      ∗ semVal (thr d L, .dma semG) 0 ∗ tPts d (tileNo L) A
      ∗ (bigSep (fromB 17) fun b => iPts d (blk (tileNo L) b) I) ∗ (bigSep Finset.univ fun b => iPts d (blk (tileNo L) b) I)
      ∗ (bigSep (fromB 16) fun b => iprop(∃ f, oPts d (blk (tileNo L) b) f))
      ∗ (bigSep (belowB 15) fun b => oPts d (blk (tileNo L) b) (gath I A))) by
        rw [trips_eq]; unfold IV
        rw [sIn_of_le d L I 16 (by decide), sOut_of_pos d L I A 16 (by decide) (by decide), belowB_of_le (le_refl 16)]
        rfl)) $$ H
  icases H' with ⟨-, HO, HfA0, HfA1, Hf, HfB0, HsG, Ht, -, Hi, -, Ho⟩
  iapply (wp_wait d L O W hO (semB 1) NO (DO d L I A (blk (tileNo L) ⟨15, by decide⟩) 1) (semB_of _ off20_val _) (by exact rfl)) $$ [Hf HO]
  · isplitr; · iexact Hlv
    isplitl [Hf]; · iexact Hf
    iexact HO
  iintro ⟨⟨Ho15, Hb⟩, HsB, HO⟩
  rw [wp_ret]; imodintro
  isplitl [HO]; · iexact HO
  isplitl [HfA0 HfA1 HfB0 HsB Hb HsG]
  · isplitl [HfA0]; · iexact HfA0
    isplitl [HfA1]; · iexact HfA1
    isplitl [HfB0]; · iexact HfB0
    isplitr [HsG]; swap; · iexact HsG
    isplitl [HsB]; · iexact HsB
    iexact Hb
  isplitl [Hi]; · iexact Hi
  isplitl [Ht]; · iexact Ht
  iapply (Entails.of_eq (show iprop(oPts d (blk (tileNo L) ⟨15, by decide⟩) (gath I A) ∗ bigSep (belowB 15) fun b => oPts d (blk (tileNo L) b) (gath I A))
    = bigSep Finset.univ fun b => oPts d (blk (tileNo L) b) (gath I A) by
      rw [← bigSep_belowB 15 (by decide) fun b => oPts d (blk (tileNo L) b) (gath I A), belowB_of_le (le_refl 16)]))
  isplitl [Ho15]; · iexact Ho15
  iexact Ho

/-! ## The scratch whole, and its slots -/

theorem adiv : 2 ∣ S2x1x128.size 0 := ⟨1, rfl⟩
theorem bdiv : 2 ∣ S2x128x128.size 0 := ⟨1, rfl⟩
theorem aRect_eq (p : Fin 2) : Rect.unit (s := S2x1x128) ![p.val, 0, 0] S1x1x128.size (aSlot_inb p) = Rect.part (s := S2x1x128) (a₀ := 0) adiv p := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]
theorem bRect_eq (p : Fin 2) : Rect.unit (s := S2x128x128) ![p.val, 0, 0] S1x128x128.size (bSlot_inb p) = Rect.part (s := S2x128x128) (a₀ := 0) bdiv p := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]
theorem set_aSlot (p : Fin 2) : (aSlot p).view.set = (Rect.part (s := S2x1x128) (a₀ := 0) adiv p).set := by
  show ((aV.view.slice (Rect.unit (s := S2x1x128) ![p.val, 0, 0] S1x1x128.size (aSlot_inb p))).reshape S1x128 squeezes_S1x1x128_S1x128.numel_eq).set = _
  rw [View.set_reshape, View.set_slice]
  exact (congrArg (fun r : Rect S2x1x128 => r.set.map _) (aRect_eq p)).trans Finset.map_refl
theorem set_bSlot (p : Fin 2) : (bSlot p).view.set = (Rect.part (s := S2x128x128) (a₀ := 0) bdiv p).set := by
  show ((bV.view.slice (Rect.unit (s := S2x128x128) ![p.val, 0, 0] S1x128x128.size (bSlot_inb p))).reshape S128x128 squeezes_S1x128x128_S128x128.numel_eq).set = _
  rw [View.set_reshape, View.set_slice]
  exact (congrArg (fun r : Rect S2x128x128 => r.set.map _) (bRect_eq p)).trans Finset.map_refl
theorem aSlot_disjoint : ∀ p p' : Fin 2, p ≠ p' → Disjoint (aSlot p).view.set (aSlot p').view.set :=
  fun p p' h => by rw [set_aSlot, set_aSlot]; exact Rect.part_disjoint adiv h
theorem bSlot_disjoint : ∀ p p' : Fin 2, p ≠ p' → Disjoint (bSlot p).view.set (bSlot p').view.set :=
  fun p p' h => by rw [set_bSlot, set_bSlot]; exact Rect.part_disjoint bdiv h
theorem aSlot_cover : (Finset.univ : Finset (Fin 2)).biUnion (fun p => (show Finset S2x1x128.Idx from (aSlot p).view.set)) = Finset.univ :=
  (Finset.biUnion_congr rfl fun p _ => set_aSlot p).trans (Rect.biUnion_part adiv)
theorem bSlot_cover : (Finset.univ : Finset (Fin 2)).biUnion (fun p => (show Finset S2x128x128.Idx from (bSlot p).view.set)) = Finset.univ :=
  (Finset.biUnion_congr rfl fun p _ => set_bSlot p).trans (Rect.biUnion_part bdiv)

theorem aSplit (fa : Buf (Elt F) (aLoc d L)) : (aLoc d L ↦{fullShare} fa : sProp 𝕄) = iprop(aPts d L 0 fa ∗ aPts d L 1 fa) :=
  (Ring.pointsTo_blocks (ℓ := aLoc d L) (fun p : Fin 2 => (aSlot p).view.set) aSlot_disjoint aSlot_cover fa).trans (bigSep_fin_two _)
theorem bSplit (fb : Buf (Elt F) (bLoc d L)) : (bLoc d L ↦{fullShare} fb : sProp 𝕄) = iprop(bPts d L 0 fb ∗ bPts d L 1 fb) :=
  (Ring.pointsTo_blocks (ℓ := bLoc d L) (fun p : Fin 2 => (bSlot p).view.set) bSlot_disjoint bSlot_cover fb).trans (bigSep_fin_two _)
theorem aJoin (f₀ : Buf (Elt F) (aLoc d L)) : iprop((∃ fa, aPts d L 0 fa) ∗ ∃ fa, aPts d L 1 fa) ⊢ (iprop(∃ f, aLoc d L ↦{fullShare} f) : sProp 𝕄) :=
  (Entails.of_eq (bigSep_fin_two (fun p : Fin 2 => iprop(∃ fa, aPts d L p fa))).symm).trans
    (Ring.pointsTo_blocks_join_exists (ℓ := aLoc d L) (fun p : Fin 2 => (aSlot p).view.set) aSlot_disjoint aSlot_cover f₀)
theorem bJoin (f₀ : Buf (Elt F) (bLoc d L)) : iprop((∃ fb, bPts d L 0 fb) ∗ ∃ fb, bPts d L 1 fb) ⊢ (iprop(∃ f, bLoc d L ↦{fullShare} f) : sProp 𝕄) :=
  (Entails.of_eq (bigSep_fin_two (fun p : Fin 2 => iprop(∃ fb, bPts d L p fb))).symm).trans
    (Ring.pointsTo_blocks_join_exists (ℓ := bLoc d L) (fun p : Fin 2 => (bSlot p).view.set) bSlot_disjoint bSlot_cover f₀)

/-! ## The tile's own semaphores and buffers -/

abbrev cell (sm : DmaSem sig) : GSem nD τ sig := (thr d L, .dma sm)

theorem ownSems0_V :
    (ownSems0 (thr d L) : sProp 𝕄)
      = iprop(semVal (cell d L (semA 0)) 0 ∗ semVal (cell d L (semA 1)) 0 ∗ semVal (cell d L (semB 0)) 0 ∗ semVal (cell d L (semB 1)) 0 ∗ semVal (cell d L semG) 0
          ∗ bigSep ((((((ownCells (thr d L)).erase (cell d L (semA 0))).erase (cell d L (semA 1))).erase (cell d L (semB 0))).erase (cell d L (semB 1))).erase (cell d L semG))
              fun g => semVal g 0) := by
  have hs : ∀ sm : DmaSem sig, (SemLoc.dma sm : SemLoc sig).isScoped .scVector = true → cell d L sm ∈ ownCells (thr d L) :=
    fun sm h => mem_ownCells.mpr ⟨rfl, h⟩
  have hne : ∀ {s s' : DmaSem sig}, s ≠ s' → cell d L s ≠ cell d L s' := fun h e => h (SemLoc.dma.inj (Prod.mk.inj e).2)
  unfold SparseCore.Cfg.ownSems0
  rw [SparseCore.bigSep_erase' (hs (semA 0) (by decide)),
    SparseCore.bigSep_erase' (Finset.mem_erase.mpr ⟨hne (by decide), hs (semA 1) (by decide)⟩),
    SparseCore.bigSep_erase' (Finset.mem_erase.mpr ⟨hne (by decide), Finset.mem_erase.mpr ⟨hne (by decide), hs (semB 0) (by decide)⟩⟩),
    SparseCore.bigSep_erase' (Finset.mem_erase.mpr ⟨hne (by decide), Finset.mem_erase.mpr ⟨hne (by decide), Finset.mem_erase.mpr ⟨hne (by decide), hs (semB 1) (by decide)⟩⟩⟩),
    SparseCore.bigSep_erase' (Finset.mem_erase.mpr ⟨hne (by decide), Finset.mem_erase.mpr ⟨hne (by decide), Finset.mem_erase.mpr ⟨hne (by decide),
      Finset.mem_erase.mpr ⟨hne (by decide), hs semG (by decide)⟩⟩⟩⟩)]

theorem ownBufs_V :
    (ownBufs (thr d L) : sProp 𝕄)
      = iprop((∃ f, aLoc d L ↦{fullShare} f) ∗ (∃ f, bLoc d L ↦{fullShare} f)
          ∗ bigSep (((ownRefs (τ := τ) (.scVector (cV L) (jV L))).erase ((Proc.scVector (cV L) (jV L)).devRef cc1_scoped0)).erase
              ((Proc.scVector (cV L) (jV L)).devRef cc1_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩)]

/-- The task on its tile, from the tile's scratch and semaphores as the launch hands them. -/
theorem tile_body (hI : ∀ x, (I x).toNat < 7040) (hF : (K (F := F)).Facts) (hO : ∀ g, O g none = 0) :
    iprop(levAts (K (F := F)).L (K (F := F)).lev ∗ emp ∗ tileIn d L I A
        ∗ scopedBufs (thr d L) ∗ scopedSems0 (thr d L) ∗ owes (thr d L) O W)
      ⊢ wp frame (wpE (defs₀ (F := F)) 𝒱₀ (thr d L) none) Set.univ (task (F := F) L)
          fun _ => iprop(tileOut d L I A ∗ scopedBufs (thr d L) ∗ scopedSems0 (thr d L) ∗ owing d L O W) := by
  rw [(K (F := F)).scopedBufs_V hF d (cV L) (jV L), SparseCore.Cfg.scopedSems0_V (Val := Elt F) d (cV L) (jV L), ownSems0_V, ownBufs_V]
  iintro ⟨#Hlv, -, Hin, ⟨⟨%fa, Ha⟩, ⟨%fb, Hb⟩, Hbufs⟩, ⟨HsA0, HsA1, HsB0, HsB1, HsG, Hsems⟩, HO⟩
  ihave Ha' := (Entails.of_eq (aSplit d L fa)) $$ Ha
  ihave Hb' := (Entails.of_eq (bSplit d L fb)) $$ Hb
  icases Ha' with ⟨Ha0, Ha1⟩
  icases Hb' with ⟨Hb0, Hb1⟩
  iapply (wp_wand _ _ _) $$ [Hin Ha0 Ha1 Hb0 Hb1 HsA0 HsA1 HsB0 HsB1 HsG HO]
  · iapply (tile_run d L I A O W hI hO)
    isplitr; · iexact Hlv
    isplitl [HO]
    · iexists W
      isplitr; · ipureintro; exact fun p hp => .inl hp
      iexact HO
    isplitr [Hin]; swap; · iexact Hin
    isplitl [HsA0 Ha0]
    · isplitl [HsA0]; · iexact HsA0
      iexists fa; iexact Ha0
    isplitl [HsA1 Ha1]
    · isplitl [HsA1]; · iexact HsA1
      iexists fa; iexact Ha1
    isplitl [HsB0 Hb0]
    · isplitl [HsB0]; · iexact HsB0
      iexists fb; iexact Hb0
    isplitl [HsB1 Hb1]
    · isplitl [HsB1]; · iexact HsB1
      iexists fb; iexact Hb1
    iexact HsG
  iintro %_ ⟨HO, ⟨⟨HsA0, Ha0⟩, ⟨HsA1, Ha1⟩, ⟨HsB0, Hb0⟩, ⟨HsB1, Hb1⟩, HsG⟩, Hout⟩
  isplitl [Hout]; · iexact Hout
  isplitl [Ha0 Ha1 Hb0 Hb1 Hbufs]
  · isplitl [Ha0 Ha1]
    · iapply (aJoin d L fa); isplitl [Ha0] <;> iassumption
    isplitl [Hb0 Hb1]
    · iapply (bJoin d L fb); isplitl [Hb0] <;> iassumption
    iexact Hbufs
  isplitr [HO]; swap; · iexact HO
  isplitl [HsA0]; · iexact HsA0
  isplitl [HsA1]; · iexact HsA1
  isplitl [HsB0]; · iexact HsB0
  isplitl [HsB1]; · iexact HsB1
  isplitl [HsG]; · iexact HsG
  iexact Hsems
end

end Cert.Proof.K
-- ==== Proof.Call.lean ====
/-
  The SparseCore call as the launch theorem takes it: what each handshake carries, the task's obligation, and how
  the whole index row, table and output split over the thirty-two tiles and come back.
-/
module

public import proofs.«01_k».proof.Proof.Tile

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

def coordsV (c : Fin (grid1.bound 0)) (s : Fin (grid1.bound 1)) : grid1.Coords :=
  fun | 0 => c | 1 => s | ⟨_ + 2, h⟩ => absurd h (Nat.not_lt.2 (Nat.le_add_left _ _))

instance tileIn_storable (d : Dev nD) (L : grid1.Coords) (I : Buf (Elt F) (iLoc d)) (A : Buf (Elt F) (tLoc d)) :
    BI.Storable (upEmb : UEmb _ 𝕄) (tileIn d L I A) := by unfold tileIn; infer_instance
instance tileOut_storable (d : Dev nD) (L : grid1.Coords) (I : Buf (Elt F) (iLoc d)) (A : Buf (Elt F) (tLoc d)) :
    BI.Storable (upEmb : UEmb _ 𝕄) (tileOut d L I A) := by unfold tileOut; infer_instance

/-! ## What the handshakes carry -/

variable (I : (d : Dev nD) → Buf (Elt F) (iLoc d)) (A : (d : Dev nD) → Buf (Elt F) (tLoc d))

/-- The call hands each SparseCore what its sixteen tiles work on, and each tile its own part. -/
def P : (K (F := F)).Pay (nD := nD) (Val := Elt F) (Name := ℕ) (U := UU) where
  st := fun q d c => match q with | 0 => bigSep Finset.univ fun i : Fin ((K (F := F)).nSub 0) => tileIn d (coordsV c i) (I d) (A d)
  dn := fun q d c => match q with | 0 => bigSep Finset.univ fun i : Fin ((K (F := F)).nSub 0) => tileOut d (coordsV c i) (I d) (A d)
  go := fun q d c i => match q with | 0 => tileIn d (coordsV c i) (I d) (A d)
  td := fun q d c i => match q with | 0 => tileOut d (coordsV c i) (I d) (A d)
  x := fun _ _ => iprop(emp)

instance P_storable : (P I A).IsStorable where
  st q d c := match q with
    | 0 => @BI.Storable.bigSep _ _ _ _ _ _ _ Finset.univ _ fun i => tileIn_storable d (coordsV c i) (I d) (A d)
  dn q d c := match q with
    | 0 => @BI.Storable.bigSep _ _ _ _ _ _ _ Finset.univ _ fun i => tileOut_storable d (coordsV c i) (I d) (A d)
  go q d c i := match q with | 0 => tileIn_storable d (coordsV c i) (I d) (A d)
  td q d c i := match q with | 0 => tileOut_storable d (coordsV c i) (I d) (A d)

/-! ## The obligation -/

theorem defs₀_vector (c : Fin τ.nSC) (s : Fin τ.nSub) :
    defs₀ (F := F) (.scVector c s) 1 () = SparseCore.onTile hcore1 hsub1 (fun c s => task (coordsV c s)) ⟨⟩ c s := rfl

theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

set_option maxRecDepth 16384 in
theorem tileObl (hI : ∀ d x, (I d x).toNat < 7040) : (K (F := F)).TileObl (D (F := F)) 𝒱 (P I A) v₀ 0 := by
  intro d c i O W hO _ _
  simp only [show (P I A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (I d) (A d) O W (hI d) facts hO).trans (wp_mono frame _ _ fun _ => obl_post)

theorem vecSplit : (K (F := F)).VecSplit' (P I A) 0 := by
  intro d c
  show (bigSep Finset.univ fun i : Fin ((K (F := F)).nSub 0) => tileIn d (coordsV c i) (I d) (A d)) ⊢ |={Set.univ}=> iprop(
      (bigSep Finset.univ fun i : Fin ((K (F := F)).nSub 0) => tileIn d (coordsV c i) (I d) (A d))
      ∗ ((bigSep Finset.univ fun i : Fin ((K (F := F)).nSub 0) => tileOut d (coordsV c i) (I d) (A d))
          -∗ (bigSep Finset.univ fun i : Fin ((K (F := F)).nSub 0) => tileOut d (coordsV c i) (I d) (A d))))
  iintro H; imodintro
  isplitl [H]; · iexact H
  iintro H; iexact H

/-! ## The whole arrays over the tiles -/

omit [FloatOps F] in
theorem over_tiles (Φ : Fin 32 → sProp 𝕄) :
    bigSep Finset.univ Φ = bigSep Finset.univ fun c : Fin (grid1.bound 0) => bigSep Finset.univ fun i : Fin (grid1.bound 1) => Φ (tileNo (coordsV c i)) := by
  rw [bigSep_univ_equiv (finProdFinEquiv : Fin 2 × Fin 16 ≃ Fin 32) Φ, bigSep_univ_prod]
  refine bigSep_congr fun c _ => bigSep_congr fun i _ => congrArg Φ (Fin.ext ?_)
  show i.val + 16 * c.val = 16 * c.val + i.val
  omega

omit [FloatOps F] in
theorem over_blocks (Φ : Fin 512 → sProp 𝕄) :
    bigSep Finset.univ Φ = bigSep Finset.univ fun c : Fin (grid1.bound 0) => bigSep Finset.univ fun i : Fin (grid1.bound 1) =>
      bigSep Finset.univ fun b : Fin 16 => Φ (blk (tileNo (coordsV c i)) b) := by
  rw [bigSep_univ_equiv (finProdFinEquiv : Fin 32 × Fin 16 ≃ Fin 512) Φ, bigSep_univ_prod, over_tiles]
  refine bigSep_congr fun c _ => bigSep_congr fun i _ => bigSep_congr fun b _ => congrArg Φ (Fin.ext ?_)
  show b.val + 16 * (tileNo (coordsV c i)).val = 16 * (tileNo (coordsV c i)).val + b.val
  omega

section
variable (d : Dev nD) (I : Buf (Elt F) (iLoc d)) (A : Buf (Elt F) (tLoc d))

omit [FloatOps F] in
theorem iWhole : (iLoc d ↦{fullShare} I : sProp 𝕄) = bigSep Finset.univ fun n => iPts d n I := by
  rw [← pointsTo_biUnion Finset.univ (ℓ := iLoc d) iSet iSet_disjoint, iSet_cover]; try rfl
omit [FloatOps F] in
theorem oWhole (f : Buf (Elt F) (oLoc d)) : (oLoc d ↦{fullShare} f : sProp 𝕄) = bigSep Finset.univ fun n => oPts d n f := by
  rw [← pointsTo_biUnion Finset.univ (ℓ := oLoc d) oSet oSet_disjoint, oSet_cover]; try rfl
omit [FloatOps F] in
theorem tWhole : (tLoc d ↦{fullShare} A : sProp 𝕄) = bigSep Finset.univ fun w => tPts d w A :=
  pointsTo_piecesOf Finset.univ A (by decide) fullShare

/-- The three arrays whole are what the tiles are handed, -/
theorem hand_out (f : Buf (Elt F) (oLoc d)) :
    iprop((iLoc d ↦{fullShare} I) ∗ (tLoc d ↦{fullShare} A) ∗ oLoc d ↦{fullShare} f)
      ⊢ (bigSep Finset.univ fun c : Fin (grid1.bound 0) => bigSep Finset.univ fun i : Fin (grid1.bound 1) => tileIn d (coordsV c i) I A : sProp 𝕄) := by
  rw [iWhole, tWhole, oWhole, over_blocks, over_tiles, over_blocks, ← bigSep_sep', ← bigSep_sep']
  have hex : ∀ n : Fin 512, oPts d n f ⊢ (iprop(∃ f, oPts d n f) : sProp 𝕄) := by
    intro n
    iintro H; iexists f; iexact H
  refine bigSep_mono fun c _ => ?_
  rw [← bigSep_sep', ← bigSep_sep']
  refine bigSep_mono fun i _ => ?_
  unfold tileIn
  have hb := bigSep_mono (s := Finset.univ) fun (b : Fin 16) _ => hex (blk (tileNo (coordsV c i)) b)
  exact Idealize.SL.BI.sep_mono_r (Idealize.SL.BI.sep_mono_r hb)

/-- and what they hand back is the index row and the table whole, and the output at the rows the indices name. -/
theorem take_back :
    (bigSep Finset.univ fun c : Fin (grid1.bound 0) => bigSep Finset.univ fun i : Fin (grid1.bound 1) => tileOut d (coordsV c i) I A : sProp 𝕄)
      ⊢ iprop((iLoc d ↦{fullShare} I) ∗ (tLoc d ↦{fullShare} A) ∗ oLoc d ↦{fullShare} gath I A) := by
  rw [iWhole, tWhole, oWhole, over_blocks, over_tiles, over_blocks, ← bigSep_sep', ← bigSep_sep']
  refine bigSep_mono fun c _ => ?_
  rw [← bigSep_sep', ← bigSep_sep']
  exact bigSep_mono fun i _ => (show (tileOut d (coordsV c i) I A : sProp 𝕄) ⊢ _ from Entails.of_eq rfl)

end

end Cert.Proof.K

end
-- ==== Proof.Host.lean ====
/- The host code of the kernel, as lists of operations in program order, and @main as the chain of them around its two calls. -/
module

public import proofs.«01_k».proof.Proof.Setup
public import Idealize.ShloMosaic.Lib.Pipeline.Frame

@[expose] public section

noncomputable section

namespace Cert.Proof.K

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The normalisation of the points, flattened, and the squared norms of the vertices. -/
abbrev opsNorm : List (HloOp τ sig (Elt F)) :=
  [ StableHlo.nullary main_cst (constant S_ .f32 0x7F800000#32),
    StableHlo.binary main_arg0 main_cst main_v0 ((fun x v => Host.reduce FloatOps.minimumf x v reducesTo_S1024x64x3_S1024x3_d1 h_S_) : (⟨S1024x64x3, .f32⟩ : BufTy).Contents (Elt F) → (⟨S_, .f32⟩ : BufTy).Contents (Elt F) → (⟨S1024x3, .f32⟩ : BufTy).Contents (Elt F)),
    StableHlo.unary main_v0 main_v1 (broadcastInDim S1024x1x3 ![0, 2] bcast_S1024x3_S1024x1x3_0_2 : (⟨S1024x3, .f32⟩ : BufTy).Contents (Elt F) → (⟨S1024x1x3, .f32⟩ : BufTy).Contents (Elt F)),
    StableHlo.nullary main_cst_0 (constant S_ .f32 0xFF800000#32),
    StableHlo.binary main_arg0 main_cst_0 main_v2 ((fun x v => Host.reduce FloatOps.maximumf x v reducesTo_S1024x64x3_S1024x3_d1 h_S_) : (⟨S1024x64x3, .f32⟩ : BufTy).Contents (Elt F) → (⟨S_, .f32⟩ : BufTy).Contents (Elt F) → (⟨S1024x3, .f32⟩ : BufTy).Contents (Elt F)),
    StableHlo.unary main_v2 main_v3 (broadcastInDim S1024x1x3 ![0, 2] bcast_S1024x3_S1024x1x3_0_2 : (⟨S1024x3, .f32⟩ : BufTy).Contents (Elt F) → (⟨S1024x1x3, .f32⟩ : BufTy).Contents (Elt F)),
    StableHlo.unary main_v1 main_v4 (broadcastInDim S1024x64x3 ![0, 1, 2] bcast_S1024x1x3_S1024x64x3_0_1_2 : (⟨S1024x1x3, .f32⟩ : BufTy).Contents (Elt F) → (⟨S1024x64x3, .f32⟩ : BufTy).Contents (Elt F)),
    StableHlo.binary main_arg0 main_v4 main_v5 (subf : (⟨S1024x64x3, .f32⟩ : BufTy).Contents (Elt F) → (⟨S1024x64x3, .f32⟩ : BufTy).Contents (Elt F) → (⟨S1024x64x3, .f32⟩ : BufTy).Contents (Elt F)),
    StableHlo.binary main_v3 main_v1 main_v6 (subf : (⟨S1024x1x3, .f32⟩ : BufTy).Contents (Elt F) → (⟨S1024x1x3, .f32⟩ : BufTy).Contents (Elt F) → (⟨S1024x1x3, .f32⟩ : BufTy).Contents (Elt F)),
    StableHlo.unary main_v6 main_v7 (broadcastInDim S1024x64x3 ![0, 1, 2] bcast_S1024x1x3_S1024x64x3_0_1_2 : (⟨S1024x1x3, .f32⟩ : BufTy).Contents (Elt F) → (⟨S1024x64x3, .f32⟩ : BufTy).Contents (Elt F)),
    StableHlo.binary main_v5 main_v7 main_v8 (Host.divf : (⟨S1024x64x3, .f32⟩ : BufTy).Contents (Elt F) → (⟨S1024x64x3, .f32⟩ : BufTy).Contents (Elt F) → (⟨S1024x64x3, .f32⟩ : BufTy).Contents (Elt F)),
    StableHlo.reshape main_v8 main_v9 (rfl : (.f32 : EltTy) = .f32) shapeCasts_S1024x64x3_S65536x3,
    StableHlo.binary main_arg1 main_arg1 main_v10 (mulf : (⟨S6890x3, .f32⟩ : BufTy).Contents (Elt F) → (⟨S6890x3, .f32⟩ : BufTy).Contents (Elt F) → (⟨S6890x3, .f32⟩ : BufTy).Contents (Elt F)),
    StableHlo.nullary main_cst_1 (constant S_ .f32 0x00000000#32),
    StableHlo.binary main_v10 main_cst_1 main_v11 ((fun x v => Host.reduceAdd x v reducesTo_S6890x3_S6890_d1 h_S_) : (⟨S6890x3, .f32⟩ : BufTy).Contents (Elt F) → (⟨S_, .f32⟩ : BufTy).Contents (Elt F) → (⟨S6890, .f32⟩ : BufTy).Contents (Elt F)),
    StableHlo.nullary main_c (constantI S_ 32 0#32) ]
theorem opsNorm_sub : (opsNorm : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.reshape_bufs_sub .., StableHlo.binary_bufs_sub .., StableHlo.nullary_bufs_sub .., StableHlo.binary_bufs_sub .., StableHlo.nullary_bufs_sub ..⟩
theorem opsNorm_fresh : (opsNorm : List (HloOp τ sig (Elt F))).Forall fun op => op.fresh = ∅ := by
  simp only [List.Forall]; repeat' constructor

/-- The vertices padded to 6912 rows of 128 lanes. -/
abbrev opsPadV : List (HloOp τ sig (Elt F)) :=
  [ StableHlo.TRef.unary (.of main_c : StableHlo.TRef sig ⟨S_, .i32⟩) (.of main_call0_v0 : StableHlo.TRef sig ⟨S_, .f32⟩) (sitofp .f32),
    StableHlo.TRef.binary (.of main_arg1 : StableHlo.TRef sig ⟨S6890x3, .f32⟩) (.of main_call0_v0 : StableHlo.TRef sig ⟨S_, .f32⟩) (.of main_v12 : StableHlo.TRef sig ⟨S6912x128, .f32⟩) (fun x v => pad S6912x128 ![0, 0] ![22, 125] ![0, 0] x v pads_S6890x3_S6912x128_0220_01250 h_S_) ]
theorem opsPadV_sub : (opsPadV : List (HloOp τ sig (Elt F))).Forall fun op => op.bufs ⊆ StableHlo.tcRefs τ sig :=
  ⟨StableHlo.unary_bufs_sub .., StableHlo.binary_bufs_sub ..⟩
theorem opsPadV_fresh : (opsPadV : List (HloOp τ sig (Elt F))).Forall fun op => op.fresh = ∅ := by
  simp only [List.Forall]; repeat' constructor

/-- The padded vertices transposed and split into a high and a low part. -/
abbrev opsSplit : List (HloOp τ sig (Elt F)) :=
  [ StableHlo.unary main_v12 main_v13 ((transpose S128x6912 [1, 0] · transposes_S6912x128_S128x6912_1_0) : (⟨S6912x128, .f32⟩ : BufTy).Contents (Elt F) → (⟨S128x6912, .f32⟩ : BufTy).Contents (Elt F)),
    StableHlo.unary main_v13 main_v14 ((truncf .bf16 · bitsLt_bf16_f32) : (⟨S128x6912, .f32⟩ : BufTy).Contents (Elt F) → (⟨S128x6912, .bf16⟩ : BufTy).Contents (Elt F)),
    StableHlo.unary main_v14 main_v15 ((extf .f32 · bitsLt_bf16_f32) : (⟨S128x6912, .bf16⟩ : BufTy).Contents (Elt F) → (⟨S128x6912, .f32⟩ : BufTy).Contents (Elt F)),
    StableHlo.binary main_v13 main_v15 main_v16 (subf : (⟨S128x6912, .f32⟩ : BufTy).Contents (Elt F) → (⟨S128x6912, .f32⟩ : BufTy).Contents (Elt F) → (⟨S128x6912, .f32⟩ : BufTy).Contents (Elt F)),
    StableHlo.unary main_v16 main_v17 ((truncf .bf16 · bitsLt_bf16_f32) : (⟨S128x6912, .f32⟩ : BufTy).Contents (Elt F) → (⟨S128x6912, .bf16⟩ : BufTy).Contents (Elt F)),
    StableHlo.unary main_v17 main_v18 ((extf .f32 · bitsLt_bf16_f32) : (⟨S128x6912, .bf16⟩ : BufTy).Contents (Elt F) → (⟨S128x6912, .f32⟩ : BufTy).Contents (Elt F)),
    StableHlo.nullary main_cst_2 (constant S_ .f32 0x7F800000#32) ]
theorem opsSplit_sub : (opsSplit : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.nullary_bufs_sub ..⟩
theorem opsSplit_fresh : (opsSplit : List (HloOp τ sig (Elt F))).Forall fun op => op.fresh = ∅ := by
  simp only [List.Forall]; repeat' constructor

/-- The squared norms padded with the infinite distance. -/
abbrev opsPadN : List (HloOp τ sig (Elt F)) :=
  [ StableHlo.TRef.unary (.of main_cst_2 : StableHlo.TRef sig ⟨S_, .f32⟩) (.of main_call1_v0 : StableHlo.TRef sig ⟨S_, .f32⟩) id,
    StableHlo.TRef.binary (.of main_v11 : StableHlo.TRef sig ⟨S6890, .f32⟩) (.of main_call1_v0 : StableHlo.TRef sig ⟨S_, .f32⟩) (.of main_v19 : StableHlo.TRef sig ⟨S6912, .f32⟩) (fun x v => pad S6912 ![0] ![22] ![0] x v pads_S6890_S6912_0220 h_S_) ]
theorem opsPadN_sub : (opsPadN : List (HloOp τ sig (Elt F))).Forall fun op => op.bufs ⊆ StableHlo.tcRefs τ sig :=
  ⟨StableHlo.unary_bufs_sub .., StableHlo.binary_bufs_sub ..⟩
theorem opsPadN_fresh : (opsPadN : List (HloOp τ sig (Elt F))).Forall fun op => op.fresh = ∅ := by
  simp only [List.Forall]; repeat' constructor

/-- The squared norms as one row. -/
abbrev opsRow : List (HloOp τ sig (Elt F)) :=
  [ StableHlo.reshape main_v19 main_v20 (rfl : (.f32 : EltTy) = .f32) shapeCasts_S6912_S1x6912 ]
theorem opsRow_sub : (opsRow : List (HloOp τ sig (Elt F))).Forall fun op => op.bufs ⊆ StableHlo.tcRefs τ sig :=
  StableHlo.reshape_bufs_sub ..
theorem opsRow_fresh : (opsRow : List (HloOp τ sig (Elt F))).Forall fun op => op.fresh = ∅ := by
  simp only [List.Forall]; repeat' constructor

/-- The indices that the search found as one list, and the constant that pads the table. -/
abbrev opsIdx : List (HloOp τ sig (Elt F)) :=
  [ StableHlo.reshape main_v21 main_v22 (rfl : (.i32 : EltTy) = .i32) shapeCasts_S256x1x256_S65536,
    StableHlo.nullary main_c_3 (constantI S_ 32 0#32) ]
theorem opsIdx_sub : (opsIdx : List (HloOp τ sig (Elt F))).Forall fun op => op.bufs ⊆ StableHlo.tcRefs τ sig :=
  ⟨StableHlo.reshape_bufs_sub .., StableHlo.nullary_bufs_sub ..⟩
theorem opsIdx_fresh : (opsIdx : List (HloOp τ sig (Elt F))).Forall fun op => op.fresh = ∅ := by
  simp only [List.Forall]; repeat' constructor

/-- The table of features padded to 7040 rows of 128 lanes. -/
abbrev opsPadT : List (HloOp τ sig (Elt F)) :=
  [ StableHlo.TRef.unary (.of main_c_3 : StableHlo.TRef sig ⟨S_, .i32⟩) (.of main_call2_v0 : StableHlo.TRef sig ⟨S_, .f32⟩) (sitofp .f32),
    StableHlo.TRef.binary (.of main_arg2 : StableHlo.TRef sig ⟨S6890x96, .f32⟩) (.of main_call2_v0 : StableHlo.TRef sig ⟨S_, .f32⟩) (.of main_v23 : StableHlo.TRef sig ⟨S7040x128, .f32⟩) (fun x v => pad S7040x128 ![0, 0] ![150, 32] ![0, 0] x v pads_S6890x96_S7040x128_01500_0320 h_S_) ]
theorem opsPadT_sub : (opsPadT : List (HloOp τ sig (Elt F))).Forall fun op => op.bufs ⊆ StableHlo.tcRefs τ sig :=
  ⟨StableHlo.unary_bufs_sub .., StableHlo.binary_bufs_sub ..⟩
theorem opsPadT_fresh : (opsPadT : List (HloOp τ sig (Elt F))).Forall fun op => op.fresh = ∅ := by
  simp only [List.Forall]; repeat' constructor

/-- The list of indices as one row. -/
abbrev opsRowI : List (HloOp τ sig (Elt F)) :=
  [ StableHlo.reshape main_v22 main_v24 (rfl : (.i32 : EltTy) = .i32) shapeCasts_S65536_S1x65536 ]
theorem opsRowI_sub : (opsRowI : List (HloOp τ sig (Elt F))).Forall fun op => op.bufs ⊆ StableHlo.tcRefs τ sig :=
  StableHlo.reshape_bufs_sub ..
theorem opsRowI_fresh : (opsRowI : List (HloOp τ sig (Elt F))).Forall fun op => op.fresh = ∅ := by
  simp only [List.Forall]; repeat' constructor

/-- The gathered rows cut to their 96 features. -/
abbrev opsCut : List (HloOp τ sig (Elt F)) :=
  [ StableHlo.unary main_v25 main_v26 ((extractStridedSlice S65536x96 ![0, 0] · slices_S65536x128_S65536x96_0_0) : (⟨S65536x128, .f32⟩ : BufTy).Contents (Elt F) → (⟨S65536x96, .f32⟩ : BufTy).Contents (Elt F)) ]
theorem opsCut_sub : (opsCut : List (HloOp τ sig (Elt F))).Forall fun op => op.bufs ⊆ StableHlo.tcRefs τ sig :=
  StableHlo.unary_bufs_sub ..
theorem opsCut_fresh : (opsCut : List (HloOp τ sig (Elt F))).Forall fun op => op.fresh = ∅ := by
  simp only [List.Forall]; repeat' constructor

/-- The lines before the search, -/
abbrev opsBefore : List (List (HloOp τ sig (Elt F))) := [opsNorm, opsPadV, opsSplit, opsPadN, opsRow]
/-- between the search and the gather, -/
abbrev opsBetween : List (List (HloOp τ sig (Elt F))) := [opsIdx, opsPadT, opsRowI]
/-- and after the gather. -/
abbrev opsAfter : List (List (HloOp τ sig (Elt F))) := [opsCut]

/-- @main is the lines before the search, the search, the lines between, the gather, the line after. -/
theorem main_chain (d : Dev nD) : main (F := F) d = (Pipeline.chain
    [ StableHlo.seq opsNorm, StableHlo.seq opsPadV, StableHlo.seq opsSplit, StableHlo.seq opsPadN, StableHlo.seq opsRow,
      Prog.lift (.customCall (SparseCore.inner (Pipeline.entry 0)) ()),
      StableHlo.seq opsIdx, StableHlo.seq opsPadT, StableHlo.seq opsRowI,
      sc.run d 0,
      StableHlo.seq opsCut ]
    : Prog (TpuEff nD τ sig (Elt F) (SparseCore.Sig (Pipeline.Sig Λ₀ (Fin 1) fun p => (pcfgs (F := F) p).Adm) 1) .tc) PUnit) := by
  rewrite [StableHlo.chain_seq_cons, Pipeline.chain_cons, StableHlo.chain_seq_cons, Pipeline.chain_cons, StableHlo.chain_seq_cons, Pipeline.chain_cons,
    StableHlo.chain_seq_cons, Pipeline.chain_cons, StableHlo.chain_seq_cons, Pipeline.chain_cons, StableHlo.chain_seq_cons]
  chain_rfl

/-- Every line touches unscoped TensorCore buffers only, and makes none of its own. -/
theorem before_sub : ∀ ops ∈ (opsBefore : List (List (HloOp τ sig (Elt F)))), ∀ op ∈ ops, op.bufs ⊆ Pipeline.ucRefs τ sig := by
  intro ops hops op hop
  simp only [List.mem_cons, List.mem_nil_iff, or_false] at hops
  rcases hops with rfl | rfl | rfl | rfl | rfl
  · exact Pipeline.sub_ucRefs op ((List.forall_iff_forall_mem.mp opsNorm_sub) op hop)
  · exact Pipeline.sub_ucRefs op ((List.forall_iff_forall_mem.mp opsPadV_sub) op hop)
  · exact Pipeline.sub_ucRefs op ((List.forall_iff_forall_mem.mp opsSplit_sub) op hop)
  · exact Pipeline.sub_ucRefs op ((List.forall_iff_forall_mem.mp opsPadN_sub) op hop)
  · exact Pipeline.sub_ucRefs op ((List.forall_iff_forall_mem.mp opsRow_sub) op hop)
theorem before_fresh : ∀ ops ∈ (opsBefore : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp opsNorm_fresh) op hop
  · exact (List.forall_iff_forall_mem.mp opsPadV_fresh) op hop
  · exact (List.forall_iff_forall_mem.mp opsSplit_fresh) op hop
  · exact (List.forall_iff_forall_mem.mp opsPadN_fresh) op hop
  · exact (List.forall_iff_forall_mem.mp opsRow_fresh) op hop
theorem between_sub : ∀ ops ∈ (opsBetween : List (List (HloOp τ sig (Elt F)))), ∀ op ∈ ops, op.bufs ⊆ Pipeline.ucRefs τ sig := by
  intro ops hops op hop
  simp only [List.mem_cons, List.mem_nil_iff, or_false] at hops
  rcases hops with rfl | rfl | rfl
  · exact Pipeline.sub_ucRefs op ((List.forall_iff_forall_mem.mp opsIdx_sub) op hop)
  · exact Pipeline.sub_ucRefs op ((List.forall_iff_forall_mem.mp opsPadT_sub) op hop)
  · exact Pipeline.sub_ucRefs op ((List.forall_iff_forall_mem.mp opsRowI_sub) op hop)
theorem between_fresh : ∀ ops ∈ (opsBetween : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp opsIdx_fresh) op hop
  · exact (List.forall_iff_forall_mem.mp opsPadT_fresh) op hop
  · exact (List.forall_iff_forall_mem.mp opsRowI_fresh) op hop
theorem after_sub : ∀ ops ∈ (opsAfter : List (List (HloOp τ sig (Elt F)))), ∀ op ∈ ops, op.bufs ⊆ Pipeline.ucRefs τ sig := by
  intro ops hops op hop
  obtain rfl := List.mem_singleton.mp hops
  exact Pipeline.sub_ucRefs op ((List.forall_iff_forall_mem.mp opsCut_sub) op hop)
theorem after_fresh : ∀ ops ∈ (opsAfter : List (List (HloOp τ sig (Elt F)))), ∀ op ∈ ops, op.fresh = ∅ := by
  intro ops hops op hop
  obtain rfl := List.mem_singleton.mp hops
  exact (List.forall_iff_forall_mem.mp opsCut_fresh) op hop

/-- Lines of host operations and then the rest are one line of all their operations and then the rest. -/
theorem chain_lines (rest : List (Prog (TpuEff nD τ sig (Elt F) (SparseCore.Sig (ΛP (F := F)) 1) .tc) PUnit)) (opss : List (List (HloOp τ sig (Elt F)))) :
    Pipeline.chain (opss.map StableHlo.seq ++ rest) = (StableHlo.seq opss.flatten >>= fun _ => Pipeline.chain rest) := by
  induction opss with
  | nil => simp only [List.map_nil, List.nil_append, List.flatten_nil, StableHlo.seq, pure_bind]
  | cons ops opss ih =>
    rw [List.map_cons, List.cons_append, Pipeline.chain_cons, ih, List.flatten_cons, StableHlo.seq_append, bind_assoc]

/-- What holds of every operation of every line holds of every operation of all of them. -/
theorem forall_flatten {p : HloOp τ sig (Elt F) → Prop} {opss : List (List (HloOp τ sig (Elt F)))} (h : ∀ ops ∈ opss, ∀ op ∈ ops, p op) :
    ∀ op ∈ opss.flatten, p op := fun op hop => by
  obtain ⟨ops, ho, hi⟩ := List.mem_flatten.mp hop
  exact h ops ho op hi

end Cert.Proof.K

end
-- ==== Proof.Search.lean ====
/-
  The search kernel on the TensorCore, one grid point at a time: the body reads its four input windows and
  leaves the row of nearest positions in its output window.  The pipeline around it runs while the TensorCore
  still owes the SparseCore call its start signal, so its proof data carry that debt.
-/
module

public import proofs.«01_k».proof.Proof.Setup
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.WordCmp

@[expose] public section

set_option maxRecDepth 16384

noncomputable section

namespace Cert.Proof.K

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The body -/

/-- The whole of each window, as the body addresses it. -/
abbrev rPts : Rect S256x3 := Rect.unit (s := S256x3) ![0, 0] S256x3.size inb_S256x3_S256x3_0_0
abbrev rVtx : Rect S128x6912 := Rect.unit (s := S128x6912) ![0, 0] S128x6912.size inb_S128x6912_S128x6912_0_0
abbrev rSq : Rect S1x6912 := Rect.unit (s := S1x6912) ![0, 0] S1x6912.size inb_S1x6912_S1x6912_0_0
abbrev rOut : Rect S1x1x256 := Rect.unit (s := S1x1x256) ![0, 0, 0] S1x1x256.size inb_S1x1x256_S1x1x256_0_0_0

/-- What the body leaves in the output window, from the four input windows. -/
def found (x0 : Vec F S256x3 .f32) (x1 x2 : Vec F S128x6912 .f32) (x3 : Vec F S1x6912 .f32) : Vec F S1x1x256 .i32 :=
  View.canon [⟨rOut, k0_pay1 (View.ld x0 rPts) (View.ld x1 rVtx) (View.ld x2 rVtx) (View.ld x3 rSq)⟩]

/-- The one store covers the output window. -/
theorem rOut_covers (p : Vec F S1x1x256 .i32) (y : S1x1x256.Idx) :
    ∃ pc ∈ ([⟨rOut, p⟩] : List (View.Piece (Elt F) S1x1x256 .i32)), y ∈ pc.1.set :=
  View.cover_of_tiled [⟨rOut, p⟩] S1x1x256.size (by rfl) y

set_option maxHeartbeats 1000000 in
/-- The body, on windows held whole: the inputs stay, the output ends at `found` of them. -/
theorem search_body (c : Dev nD) (E : Set ℕ) (i : grid0.Coords)
    (a1 : Memref sig .tc .vmem S256x3 .f32) (h1 : a1.IsWhole) (a2 : Memref sig .tc .vmem S128x6912 .f32) (h2 : a2.IsWhole)
    (a3 : Memref sig .tc .vmem S128x6912 .f32) (h3 : a3.IsWhole) (a4 : Memref sig .tc .vmem S1x6912 .f32) (h4 : a4.IsWhole)
    (a5 : Memref sig .tc .vmem S1x1x256 .i32) (h5 : a5.IsWhole)
    (x0 : Vec F S256x3 .f32) (x1 x2 : Vec F S128x6912 .f32) (x3 : Vec F S1x6912 .f32) (Q : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (found x0 x1 x2 x3)) -∗ Q ⟨⟩))
      ⊢ wp frame (wpE (defs₀ (F := F)) 𝒱₀ c none) E (cc0__argmin_body i a1 h1 a2 h2 a3 h3 a4 h4 a5 h5) Q := by
  simp only [cc0__argmin_body_eq_skeleton]; unfold cc0__argmin_body_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (rOut_covers _)

/-! ## The pipeline's proof data -/

variable (V₁ : Dev nD → Valuation τ sig (Elt F))

/-- Window `w`'s block at point `t`, of the arrays as the region finds them. -/
def blkOf (c : Dev nD) (w : Fin cfg0.W) (t : Fin cfg0.N) : ((cfg0.win w).xblock (cfg0.grid.coords t)).Idx → Elt F (cfg0.win w).elt :=
  ((cfg0.win w).blk t).view.read (Elt F) (V₁ c (Proc.devRef .tc (Pipeline.arrRef spec0 w)))

/-- The pipeline's proof data: inputs in place, the output at `found` of the inputs' blocks; throughout, the TensorCore
    owes the SparseCore call's start and has only ever waited at level 0. -/
def dats (_ : Fin 1) (c : Dev nD) : Dat τ (Elt F) (HIx 1) ℕ UU ℕ cfg0 c where
  A w := V₁ c (Proc.devRef .tc (Pipeline.arrRef spec0 w))
  after w t := match w with
    | ⟨0, _⟩ => blkOf V₁ c 0 t
    | ⟨1, _⟩ => blkOf V₁ c 1 t
    | ⟨2, _⟩ => blkOf V₁ c 2 t
    | ⟨3, _⟩ => blkOf V₁ c 3 t
    | ⟨4, _⟩ => found (blkOf V₁ c 0 t) (blkOf V₁ c 1 t) (blkOf V₁ c 2 t) (blkOf V₁ c 3 t)
  Φ _ := Pipeline.scopedRest spec0 c
  q _ := fullShare
  owed _ := (K (F := F)).Otc c 0
  recorded _ := {p | (K (F := F)).lev (T c, p.1) p.2 ≤ 0}

theorem dats_A (c : Dev nD) (w : Fin cfg0.W) : (dats V₁ 0 c).A w = V₁ c (Proc.devRef .tc (Pipeline.arrRef spec0 w)) := by
  dsimp only [dats]
theorem dats_owed (c : Dev nD) (t) : (dats V₁ 0 c).owed t = (K (F := F)).Otc c 0 := by dsimp only [dats]
theorem after_0 (c : Dev nD) (t : Fin cfg0.N) : (dats V₁ 0 c).after 0 t = blkOf V₁ c 0 t := by dsimp only [dats]
theorem after_1 (c : Dev nD) (t : Fin cfg0.N) : (dats V₁ 0 c).after 1 t = blkOf V₁ c 1 t := by dsimp only [dats]
theorem after_2 (c : Dev nD) (t : Fin cfg0.N) : (dats V₁ 0 c).after 2 t = blkOf V₁ c 2 t := by dsimp only [dats]
theorem after_3 (c : Dev nD) (t : Fin cfg0.N) : (dats V₁ 0 c).after 3 t = blkOf V₁ c 3 t := by dsimp only [dats]
theorem after_4 (c : Dev nD) (t : Fin cfg0.N) :
    (dats V₁ 0 c).after 4 t = found (blkOf V₁ c 0 t) (blkOf V₁ c 1 t) (blkOf V₁ c 2 t) (blkOf V₁ c 3 t) := by dsimp only [dats]

/-- An input window's buffer holds its block at every point, fetched there or not. -/
theorem before_0 (c : Dev nD) (t : Fin cfg0.N) (d) : (dats V₁ 0 c).before 0 t d = blkOf V₁ c 0 t :=
  ((dats V₁ 0 c).before_in_eq_fetched 0 rfl (fun _ => rfl) (fun _ _ _ => rfl)
    (fun t => by rw [after_0]; unfold Dat.blockOf blkOf; rw [dats_A]; try rfl) t d).trans
    (by unfold Dat.fetched Dat.blockOf blkOf; rw [dats_A]; try rfl)
theorem before_1 (c : Dev nD) (t : Fin cfg0.N) (d) : (dats V₁ 0 c).before 1 t d = blkOf V₁ c 1 t :=
  ((dats V₁ 0 c).before_in_eq_fetched 1 rfl (fun _ => rfl) (fun _ _ _ => rfl)
    (fun t => by rw [after_1]; unfold Dat.blockOf blkOf; rw [dats_A]; try rfl) t d).trans
    (by unfold Dat.fetched Dat.blockOf blkOf; rw [dats_A]; try rfl)
theorem before_2 (c : Dev nD) (t : Fin cfg0.N) (d) : (dats V₁ 0 c).before 2 t d = blkOf V₁ c 2 t :=
  ((dats V₁ 0 c).before_in_eq_fetched 2 rfl (fun _ => rfl) (fun _ _ _ => rfl)
    (fun t => by rw [after_2]; unfold Dat.blockOf blkOf; rw [dats_A]; try rfl) t d).trans
    (by unfold Dat.fetched Dat.blockOf blkOf; rw [dats_A]; try rfl)
theorem before_3 (c : Dev nD) (t : Fin cfg0.N) (d) : (dats V₁ 0 c).before 3 t d = blkOf V₁ c 3 t :=
  ((dats V₁ 0 c).before_in_eq_fetched 3 rfl (fun _ => rfl) (fun _ _ _ => rfl)
    (fun t => by rw [after_3]; unfold Dat.blockOf blkOf; rw [dats_A]; try rfl) t d).trans
    (by unfold Dat.fetched Dat.blockOf blkOf; rw [dats_A]; try rfl)

/-! ## The body obligation -/

/-- What the body is entered with at point `t`. -/
def enters (c : Dev nD) (t : Fin cfg0.N) : sProp 𝕄 :=
  iprop((dats V₁ 0 c).Φ t.castSucc ∗ (dats V₁ 0 c).owesAt none t.castSucc
    ∗ (∃ d, owns (c : Thread nD τ) (st0_0 t) fullShare ((dats V₁ 0 c).before 0 t d))
    ∗ (∃ d, owns (c : Thread nD τ) (st0_1 t) fullShare ((dats V₁ 0 c).before 1 t d))
    ∗ (∃ d, owns (c : Thread nD τ) (st0_2 t) fullShare ((dats V₁ 0 c).before 2 t d))
    ∗ (∃ d, owns (c : Thread nD τ) (st0_3 t) fullShare ((dats V₁ 0 c).before 3 t d))
    ∗ (∃ d, owns (c : Thread nD τ) (st0_4 t) fullShare ((dats V₁ 0 c).before 4 t d)))

/-- What it leaves. -/
def leaves (c : Dev nD) (t : Fin cfg0.N) : sProp 𝕄 :=
  iprop((dats V₁ 0 c).Φ t.succ ∗ (dats V₁ 0 c).owesAt none t.succ
    ∗ owns (c : Thread nD τ) (st0_0 t) fullShare ((dats V₁ 0 c).after 0 t)
    ∗ owns (c : Thread nD τ) (st0_1 t) fullShare ((dats V₁ 0 c).after 1 t)
    ∗ owns (c : Thread nD τ) (st0_2 t) fullShare ((dats V₁ 0 c).after 2 t)
    ∗ owns (c : Thread nD τ) (st0_3 t) fullShare ((dats V₁ 0 c).after 3 t)
    ∗ owns (c : Thread nD τ) (st0_4 t) fullShare ((dats V₁ 0 c).after 4 t))

theorem body_point (c : Dev nD) (t : Fin cfg0.N) :
    enters V₁ c t ⊢ wp frame (wpE (defs₀ (F := F)) 𝒱₀ c none) Set.univ (bodyAt0 t) (fun _ => leaves V₁ c t) := by
  unfold enters leaves bodyAt0
  simp only [before_0, before_1, before_2, before_3]
  rw [show (dats V₁ 0 c).Φ t.succ = (dats V₁ 0 c).Φ t.castSucc from rfl,
    show (dats V₁ 0 c).owesAt none t.succ = (dats V₁ 0 c).owesAt none t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (search_body c Set.univ (grid0.coords t) _ _ _ _ _ _ _ _ _ _ (blkOf V₁ c 0 t) (blkOf V₁ c 1 t) (blkOf V₁ c 2 t) (blkOf V₁ c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The table's row at point `t` is the body there. -/
theorem defs₀_tc (t : Fin cfg0.N) : defs₀ (F := F) .tc cfg0.body (cfg0.bodyArgs t (cfg0.slots t)) = bodyAt0 t := rfl

theorem obligation (c : Dev nD) : BodyObligation (dats (F := F) V₁ 0 c) (defs₀ (F := F)) 𝒱₀ none Set.univ := fun t => by
  rw [bigSep_W0, bigSep_W0, defs₀_tc]
  exact triple_restated (body_point V₁ c t) rfl .rfl fun _ => .rfl

end Cert.Proof.K

end
-- ==== Proof.Region.lean ====
/-
  The search region as one step of @main: from the host's buffers and the TensorCore's debts, to the same
  buffers with the index array written and the same debts.
-/
module

public import proofs.«01_k».proof.Proof.Search
public import Idealize.ShloMosaic.Lib.Pipeline.FrameTail
public import Idealize.ShloMosaic.Lib.Pipeline.RegionArrays

@[expose] public section

set_option maxRecDepth 16384

noncomputable section

namespace Cert.Proof.K

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg)

variable {F : FTy → Type} [FloatOps F]

local notation "𝕄" => MT nD τ sig (HIx 1) (Elt F) ℕ UU ℕ

/-! ## The pipeline's ghost state -/

/-- Where the pipeline's rounds sit in the ghost state. -/
def EP : Emb UP 𝕄 :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP (F := F)).LandsIn (upEmb : UEmb _ 𝕄) := by unfold EP; infer_instance

/-- No table is prefetched. -/
abbrev adm : (p : Fin 1) → (pcfgs (F := F) p).Adm := fun p => (cfgs p).toPCfg_adm

theorem launchP : Pipeline.PLaunchFacts (nD := nD) (τ := τ) (pcfgs (F := F)) 0 := launch0.toP

theorem cells_inj : Function.Injective (Pipeline.cellOf (nD := nD) (τ := τ) (Pipeline.pin (pcfgs (F := F)) adm)) := launchP.cellOf_inj adm

/-! ## The region -/

variable (V₁ : Dev nD → Valuation τ sig (Elt F))

/-- The buffers as the region leaves them. -/
def V₂ (c : Dev nD) : Valuation τ sig (Elt F) := Pipeline.afterRegion (dats V₁ 0 c) (V₁ c)

/-- The TensorCore's debts and waits before the SparseCore call. -/
def debts (c : Dev nD) : sProp 𝕄 :=
  iprop(∃ W, ⌜(K (F := F)).WBelow (T c) W 0⌝ ∗ owes (T c) ((K (F := F)).Otc c 0) W)

theorem debts_enter (c : Dev nD) : debts c ⊢ (dats V₁ 0 c).owesAt none 0 := by
  unfold debts Dat.owesAt Pipeline.owesWithin
  rw [dats_owed]
  iintro ⟨%W, %hW, HO⟩
  iexists W; isplitr
  · ipureintro; exact fun p hp => Or.inl (hW p hp)
  iexact HO

theorem debts_leave (c : Dev nD) : (dats V₁ 0 c).owesAt none (Fin.last cfg0.N) ⊢ debts c := by
  unfold debts Dat.owesAt Pipeline.owesWithin
  rw [dats_owed]
  iintro ⟨%W, %hW, HO⟩
  iexists W; isplitr
  · ipureintro
    intro p hp
    rcases hW hp with h | ⟨w, s, rfl⟩
    · exact h
    · exact le_rfl
  iexact HO

theorem waits (c : Dev nD) : (levAts (K (F := F)).L (K (F := F)).lev : sProp 𝕄)
    ⊢ Pipeline.cellsWaits (Pipeline.pin (pcfgs (F := F)) adm) (dats V₁) none 0 c :=
  Pipeline.cellsWaits_of_cut (Pipeline.pin (pcfgs (F := F)) adm) (dats V₁) none 0 c 0 ((K (F := F)).Otc c 0) (dats_owed V₁ c)
    (fun _ _ => Finset.mem_univ _) (fun _ _ => le_rfl)
    (fun g i h => ⟨Finset.mem_univ _, by have := (K (F := F)).lev_of_Otc_pos h; omega⟩)

set_option backward.isDefEq.respectTransparency.types false in
/-- The region: in, the host's buffers at `V₁` and the debts; out, the buffers at `V₂` and the debts. -/
def region : Pipeline.RegionSeg (pcfgs (F := F)) adm (dats V₁) none defs₀ 𝒱₀ (K (F := F)).L (K (F := F)).lev 0 where
  win := (launchP (F := F)).win.to₀
  block_pos := (launchP (F := F)).block_pos
  stage_whole := (launchP (F := F)).stage_whole
  K := PEmpty
  osem := fun k => k.elim
  ho := Pipeline.OwnSemFacts.none _
  hbody := fun c => (obligation V₁ c).loose
  hwaits := waits V₁
  pre := fun c => iprop(StableHlo.held (c.tc : Thread nD τ) (Pipeline.ucRefs τ sig) (V₁ c) ∗ debts c)
  post := fun c => iprop(StableHlo.held (c.tc : Thread nD τ) (Pipeline.ucRefs τ sig) (V₂ V₁ c) ∗ debts c)
  X := fun _ => iprop(emp)
  Y := fun _ => iprop(emp)
  Z := fun c => Pipeline.unscopedRest spec0 c (fun b => V₁ c (Proc.devRef .tc b))
  hentry := fun c => by
    rw [Pipeline.ownSems0_none, Pipeline.prefHeld_of_none _ rfl, ← Pipeline.unscopedBufs_held c (V₁ c)]
    have hcut := Pipeline.arrays_of_unscopedBufs (p := 0) (pcfgs (F := F)) adm (dats V₁) (launchP (F := F)).win (launchP (F := F)).arr_whole c
      ((dats V₁ 0 c).share_full fun _ => rfl) (fun b => V₁ c (Proc.devRef .tc b)) (fun w => dats_A V₁ c w)
    iintro ⟨⟨Hb, HO⟩, -, -⟩
    ihave Hb := hcut $$ Hb
    icases Hb with ⟨Ha, Hrest⟩
    ihave HO := (debts_enter V₁ c) $$ HO
    imodintro
    isplitl [Ha]; · iexact Ha
    isplitr; · iempintro
    isplitl [HO]; · iexact HO
    isplitr; · iempintro
    iexact Hrest
  hin := fun c => by
    iintro ⟨-, -, H⟩
    iapply (show Pipeline.scopedRest spec0 c ⊢ (dats V₁ 0 c).Φ 0 from .rfl)
    iexact H
  hout := fun c => by
    rw [Pipeline.ownSems0_none]
    iintro H
    isplitr; · iempintro
    isplitr; · iempintro
    iapply (show (dats V₁ 0 c).Φ (Fin.last cfg0.N) ⊢ Pipeline.scopedRest spec0 c from .rfl)
    iexact H
  hexit := fun c => by
    have hjoin := Pipeline.unscopedBufs_of_arrays (p := 0) (pcfgs (F := F)) adm (Ix := HIx 1) (Name := ℕ) (U := UU) (Lvl := ℕ)
      (launchP (F := F)).win (launchP (F := F)).arr_whole c (dats V₁) ((dats V₁ 0 c).share_full fun _ => rfl)
      (fun b => V₁ c (Proc.devRef .tc b)) (fun b => V₂ V₁ c (Proc.devRef .tc b)) ((dats V₁ 0 c).arrAt · cfg0.N)
      (fun w => (Pipeline.afterRegion_arr (dats V₁ 0 c) (V₁ c) launch0.win.arr_inj w).symm)
      (fun b hb => Pipeline.afterRegion_of_not_arr (dats V₁ 0 c) (V₁ c)
        fun w h => hb (h ▸ Finset.mem_image.mpr ⟨w, Finset.mem_univ _, rfl⟩))
    rw [← Pipeline.unscopedBufs_held c (V₂ V₁ c)]
    iintro ⟨Ha, HO, -, Hrest⟩
    ihave HO := (debts_leave V₁ c) $$ HO
    imodintro
    isplitl [Ha Hrest]
    · iapply hjoin; isplitl [Ha] <;> iassumption
    iexact HO

/-- The region's call in @main, under the SparseCore launch's body table. -/
theorem wp_region (c : Dev nD) {β : Type} (k : PUnit → Prog (TpuEff nD τ sig (Elt F) (SparseCore.Sig (ΛP (F := F)) 1) .tc) β) (Q : β → sProp 𝕄) :
    iprop(boundary (T c) ∗ StableHlo.held (T c) (Pipeline.ucRefs τ sig) (V₁ c) ∗ debts c ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ iprop((iprop(boundary (T c) ∗ StableHlo.held (T c) (Pipeline.ucRefs τ sig) (V₂ V₁ c) ∗ debts c)
          -∗ wp frame (wpE ((K (F := F)).defs D) 𝒱 (T c) none) Set.univ (k ⟨⟩) Q)
        -∗ wp frame (wpE ((K (F := F)).defs D) 𝒱 (T c) none) Set.univ
          (Prog.lift (.customCall (SparseCore.inner (Pipeline.entry 0)) ()) >>= k) Q) := by
  have h1 := (Pipeline.RegionSeg.wp (pcfgs (F := F)) adm (dats V₁) none cells_inj EP defs₀ 𝒱₀ (K (F := F)).L (K (F := F)).lev
    (region V₁) c none (fun _ h => nomatch h) (fun _ => .ret PUnit.unit)
    (fun _ => iprop(boundary (T c) ∗ StableHlo.held (T c) (Pipeline.ucRefs τ sig) (V₂ V₁ c) ∗ debts c))).trans
    ((K (F := F)).wp_liftProg D 𝒱 (T c) Set.univ none _ _)
  rw [wp_bind]
  iintro ⟨Hb, Hh, Hd, HL, HG, HT⟩ Hk
  ihave H := h1 $$ [Hb Hh Hd HL HG HT]
  · isplitr
    · iintro H; rw [wp_ret]; imodintro; iexact H
    isplitl [Hb]; · iexact Hb
    isplitl [Hh Hd]
    · iapply (show iprop(StableHlo.held (T c) (Pipeline.ucRefs τ sig) (V₁ c) ∗ debts c) ⊢ (region V₁).pre c from .rfl)
      isplitl [Hh]; · iexact Hh
      iexact Hd
    isplitl [HL]; · iexact HL
    isplitl [HG]; · iexact HG
    iexact HT
  iapply (wp_wand frame _ _) $$ H
  iintro %a H
  iapply Hk
  iexact H

end Cert.Proof.K

end
-- ==== Proof.Index.lean ====
/-
  The index array the search region leaves: block by block the body's result, and every index in it names a row
  of the padded table, whatever the floats are.
-/
module

public import proofs.«01_k».proof.Proof.Region
public import Idealize.ShloMosaic.Lib.Pipeline.ValueKit
public import Idealize.ShloMosaic.Lib.Pointwise.Reduce
public import Idealize.ShloMosaic.Lib.SortNet.Extract
public import Idealize.ShloMosaic.Lib.ValueIdxCore

@[expose] public section

set_option maxRecDepth 16384

noncomputable section

namespace Cert.Proof.K

open Cert.KernelIdeal Cert.KernelIdeal.Gen
open Idealize.ShloMosaic Idealize.ShloMosaic.ValueIdx
open Idealize.ShloMosaic.Pipeline (Dat Cfg)

variable {F : FTy → Type} [FloatOps F]

/-- The body's result is the payload of its one store. -/
theorem found_eq (x0 : Vec F S256x3 .f32) (x1 x2 : Vec F S128x6912 .f32) (x3 : Vec F S1x6912 .f32) :
    found x0 x1 x2 x3 = k0_pay1 x0 x1 x2 x3 := by
  have h2 : (![0, 0] : Fin 2 → ℕ) = fun _ => 0 := by decide
  have h3 : (![0, 0, 0] : Fin 3 → ℕ) = fun _ => 0 := by decide
  unfold found
  rw [View.canon_unit_zero h3, View.ld_unit_zero h2, View.ld_unit_zero h2, View.ld_unit_zero h2, View.ld_unit_zero h2]

/-! ## The range of an index -/

/-- The least marked position, or 6912: between 0 and 6912 as a signed word. -/
theorem least_range (b : IVec S256x6912 1) (h : 2147483647#32 = IKind.minsi.neutral) (j : S256.Idx) :
    0 ≤ (multiReductionI .minsi [1] S256 (select b (iota .tc S256x6912 32 [1] iota_S256x6912_d1_w32)
        (broadcast S256x6912 6912#32)) 2147483647#32 reduces_S256x6912_S256 h j).toInt
      ∧ (multiReductionI .minsi [1] S256 (select b (iota .tc S256x6912 32 [1] iota_S256x6912_d1_w32)
        (broadcast S256x6912 6912#32)) 2147483647#32 reduces_S256x6912_S256 h j).toInt ≤ 6912 := by
  have hs : ∀ i, 0 ≤ (select b (iota .tc S256x6912 32 [1] iota_S256x6912_d1_w32) (broadcast S256x6912 6912#32) i).toInt
      ∧ (select b (iota .tc S256x6912 32 [1] iota_S256x6912_d1_w32) (broadcast S256x6912 6912#32) i).toInt ≤ 6912 := by
    intro i
    have hi : (i 1).val < 6912 := (i 1).isLt
    have hw : (iota .tc S256x6912 32 [1] iota_S256x6912_d1_w32 i).toInt = (i 1).val := by
      rw [iota_single_apply, BitVec.toInt_ofNat']
      rw [Int.bmod_eq_of_le] <;> omega
    show 0 ≤ (if b i = 1#1 then _ else _ : BitVec 32).toInt ∧ (if b i = 1#1 then _ else _ : BitVec 32).toInt ≤ 6912
    split
    · rw [hw]; omega
    · show 0 ≤ (6912#32).toInt ∧ (6912#32).toInt ≤ 6912
      decide
  rw [multiReductionI_eq_fold, Shape.Reduces.fold_fiber_r2_a1,
    ← Finset.fold_hom (op := IKind.op .minsi) (op' := min) (m := BitVec.toInt) SortNet.toInt_minsi]
  constructor
  · exact (Finset.le_fold_min _).2 ⟨by decide, fun k _ => (hs _).1⟩
  · exact (Finset.fold_min_le _).2 (Or.inr ⟨(0 : Fin 6912), Finset.mem_univ _, (hs _).2⟩)

theorem toNat_lt_of_range (w : BitVec 32) (h : 0 ≤ w.toInt ∧ w.toInt ≤ 6912) : w.toNat < 7040 := by
  have := BitVec.toInt_eq_toNat_cond w
  split at this <;> omega

/-- Every index the body leaves names a row of the padded table. -/
theorem pay_lt (x0 : Vec F S256x3 .f32) (x1 x2 : Vec F S128x6912 .f32) (x3 : Vec F S1x6912 .f32) (y : S1x1x256.Idx) :
    (k0_pay1 x0 x1 x2 x3 y).toNat < 7040 :=
  toNat_lt_of_range _ (by unfold k0_pay1; exact least_range _ _ _)

/-! ## The index array -/

variable (V₁ : Dev nD → Valuation τ sig (Elt F))

/-- Point `t` writes back block `t`. -/
theorem idx3_at : ∀ t : Fin cfg0.N, win0_4.index t 0 = t.val ∧ win0_4.index t 2 = 0 := by decide +kernel

/-- The index at position `i` of the index array. -/
def idx3 (c : Dev nD) : S256x1x256.Idx → BitVec 32 := fun i =>
  k0_pay1 (blkOf V₁ c 0 (Fin.cast N_0.symm (i 0))) (blkOf V₁ c 1 (Fin.cast N_0.symm (i 0))) (blkOf V₁ c 2 (Fin.cast N_0.symm (i 0)))
    (blkOf V₁ c 3 (Fin.cast N_0.symm (i 0))) (ValueIdx.ix3 0 0 (i 2))

/-- The index array after the region. -/
theorem V₂_idx (c : Dev nD) : V₂ V₁ c (Proc.devRef .tc main_v21) = idx3 V₁ c := by
  refine (Pipeline.afterRegion_arr (dats V₁ 0 c) (V₁ c) launch0.win.arr_inj 4).trans ?_
  refine (dats V₁ 0 c).arrAt_eq_of_covers 4 _ (by decide +kernel) fun t hf y => ?_
  blk_simp
  rw [after_4, found_eq]
  have h0 : (y 0).val = 0 := by have : (y 0).val < 1 := (y 0).isLt; omega
  have h1 : (y 1).val = 0 := by have : (y 1).val < 1 := (y 1).isLt; omega
  have e0 : ((win0_4.blk t).view.emb y 0).val = t.val :=
    (Pipeline.Window.rect_emb_val win0_4 t y 0 rfl).trans (by rw [(idx3_at t).1, h0]; exact Nat.mul_one _)
  have e2 : ((win0_4.blk t).view.emb y 2).val = (y 2).val :=
    (Pipeline.Window.rect_emb_val win0_4 t y 2 rfl).trans (by rw [(idx3_at t).2]; omega)
  have ht : Fin.cast N_0.symm ((win0_4.blk t).view.emb y 0) = t := Fin.ext e0
  have hy : ValueIdx.ix3 0 0 ((win0_4.blk t).view.emb y 2) = y := by
    funext a
    match a with
    | ⟨0, _⟩ => exact Fin.ext h0.symm
    | ⟨1, _⟩ => exact Fin.ext h1.symm
    | ⟨2, _⟩ => exact Fin.ext e2
  unfold idx3
  rw [ht]
  exact congrArg _ hy.symm

theorem idx3_lt (c : Dev nD) (i : S256x1x256.Idx) : (idx3 V₁ c i).toNat < 7040 := pay_lt _ _ _ _ _

end Cert.Proof.K

end
-- ==== Proof.Stage.lean ====
/-
  What the buffers hold at each stage of @main: after the host lines before the search, after the search, after the
  lines that make the gather's operands, after the gather, and at the end.
-/
module

public import proofs.«01_k».proof.Proof.Host
public import proofs.«01_k».proof.Proof.Index
public import Idealize.ShloMosaic.Lib.StableHlo.RunRead

@[expose] public section

set_option maxRecDepth 16384

noncomputable section

namespace Cert.Proof.K

open Cert.KernelIdeal Cert.KernelIdeal.Gen
open Idealize.ShloMosaic

variable {F : FTy → Type} [FloatOps F]

/-! ## What the host lines leave -/

section
variable (V : Valuation τ sig (Elt F))

theorem between_v22 : StableHlo.after opsBetween.flatten V (Proc.devRef .tc main_v22) = shapeCast S65536 (V (Proc.devRef .tc main_v21)) shapeCasts_S256x1x256_S65536 := by
  simp only [opsBetween, opsIdx, opsPadT, opsRowI, List.flatten_cons, List.flatten_nil, List.append_nil, List.cons_append, List.nil_append]
  after_reads_simp
  rfl
theorem between_v24 : StableHlo.after opsBetween.flatten V (Proc.devRef .tc main_v24)
    = shapeCast S1x65536 (shapeCast S65536 (V (Proc.devRef .tc main_v21)) shapeCasts_S256x1x256_S65536) shapeCasts_S65536_S1x65536 := by
  simp only [opsBetween, opsIdx, opsPadT, opsRowI, List.flatten_cons, List.flatten_nil, List.append_nil, List.cons_append, List.nil_append]
  after_reads_simp
  rfl
theorem between_v23 : StableHlo.after opsBetween.flatten V (Proc.devRef .tc main_v23)
    = pad S7040x128 ![0, 0] ![150, 32] ![0, 0] (V (Proc.devRef .tc main_arg2)) (sitofp .f32 (constantI S_ 32 0#32)) pads_S6890x96_S7040x128_01500_0320 h_S_ := by
  simp only [opsBetween, opsIdx, opsPadT, opsRowI, List.flatten_cons, List.flatten_nil, List.append_nil, List.cons_append, List.nil_append]
  after_reads_simp
  rfl
theorem after_v26 : StableHlo.after opsAfter.flatten V (Proc.devRef .tc main_v26) = extractStridedSlice S65536x96 ![0, 0] (V (Proc.devRef .tc main_v25)) slices_S65536x128_S65536x96_0_0 := by
  simp only [opsAfter, opsCut, List.flatten_cons, List.flatten_nil, List.append_nil, List.cons_append, List.nil_append]
  after_reads_simp
theorem after_v22 : StableHlo.after opsAfter.flatten V (Proc.devRef .tc main_v22) = V (Proc.devRef .tc main_v22) := by
  simp only [opsAfter, opsCut, List.flatten_cons, List.flatten_nil, List.append_nil, List.cons_append, List.nil_append]
  after_reads_simp
theorem before_arg0 : StableHlo.after opsBefore.flatten V (Proc.devRef .tc main_arg0) = V (Proc.devRef .tc main_arg0) := by
  simp only [opsBefore, opsNorm, opsPadV, opsSplit, opsPadN, opsRow, List.flatten_cons, List.flatten_nil, List.append_nil, List.cons_append, List.nil_append]
  after_reads_simp
theorem between_arg0 : StableHlo.after opsBetween.flatten V (Proc.devRef .tc main_arg0) = V (Proc.devRef .tc main_arg0) := by
  simp only [opsBetween, opsIdx, opsPadT, opsRowI, List.flatten_cons, List.flatten_nil, List.append_nil, List.cons_append, List.nil_append]
  after_reads_simp
theorem after_arg0 : StableHlo.after opsAfter.flatten V (Proc.devRef .tc main_arg0) = V (Proc.devRef .tc main_arg0) := by
  simp only [opsAfter, opsCut, List.flatten_cons, List.flatten_nil, List.append_nil, List.cons_append, List.nil_append]
  after_reads_simp
theorem before_arg1 : StableHlo.after opsBefore.flatten V (Proc.devRef .tc main_arg1) = V (Proc.devRef .tc main_arg1) := by
  simp only [opsBefore, opsNorm, opsPadV, opsSplit, opsPadN, opsRow, List.flatten_cons, List.flatten_nil, List.append_nil, List.cons_append, List.nil_append]
  after_reads_simp
theorem between_arg1 : StableHlo.after opsBetween.flatten V (Proc.devRef .tc main_arg1) = V (Proc.devRef .tc main_arg1) := by
  simp only [opsBetween, opsIdx, opsPadT, opsRowI, List.flatten_cons, List.flatten_nil, List.append_nil, List.cons_append, List.nil_append]
  after_reads_simp
theorem after_arg1 : StableHlo.after opsAfter.flatten V (Proc.devRef .tc main_arg1) = V (Proc.devRef .tc main_arg1) := by
  simp only [opsAfter, opsCut, List.flatten_cons, List.flatten_nil, List.append_nil, List.cons_append, List.nil_append]
  after_reads_simp
theorem before_arg2 : StableHlo.after opsBefore.flatten V (Proc.devRef .tc main_arg2) = V (Proc.devRef .tc main_arg2) := by
  simp only [opsBefore, opsNorm, opsPadV, opsSplit, opsPadN, opsRow, List.flatten_cons, List.flatten_nil, List.append_nil, List.cons_append, List.nil_append]
  after_reads_simp
theorem between_arg2 : StableHlo.after opsBetween.flatten V (Proc.devRef .tc main_arg2) = V (Proc.devRef .tc main_arg2) := by
  simp only [opsBetween, opsIdx, opsPadT, opsRowI, List.flatten_cons, List.flatten_nil, List.append_nil, List.cons_append, List.nil_append]
  after_reads_simp
theorem after_arg2 : StableHlo.after opsAfter.flatten V (Proc.devRef .tc main_arg2) = V (Proc.devRef .tc main_arg2) := by
  simp only [opsAfter, opsCut, List.flatten_cons, List.flatten_nil, List.append_nil, List.cons_append, List.nil_append]
  after_reads_simp

end

/-! ## The stages -/

variable (m : (ℓ : Loc nD τ sig) → Buf (Elt F) ℓ) (d : Dev nD)

/-- At launch, before the search, after it, before the gather, -/
def W₀ : Valuation τ sig (Elt F) := fun b => m (d, b)
def W₁ : Valuation τ sig (Elt F) := StableHlo.after opsBefore.flatten (W₀ m d)
def W₂ : Valuation τ sig (Elt F) := V₂ (W₁ m) d
def W₃ : Valuation τ sig (Elt F) := StableHlo.after opsBetween.flatten (W₂ m d)
/-- the gather's index row and table, -/
def rowI : Buf (Elt F) (iLoc d) := W₃ m d (Proc.devRef .tc main_v24)
def tabA : Buf (Elt F) (tLoc d) := W₃ m d (Proc.devRef .tc main_v23)
/-- after the gather, and at the end. -/
def W₄ : Valuation τ sig (Elt F) := Function.update (W₃ m d) (Proc.devRef .tc main_v25) (gath (rowI m d) (tabA m d))
def W₅ : Valuation τ sig (Elt F) := StableHlo.after opsAfter.flatten (W₄ m d)

theorem W₂_idx : W₂ m d (Proc.devRef .tc main_v21) = idx3 (W₁ m) d := V₂_idx (W₁ m) d
theorem W₂_arg {b : Ref sig .tc} (hb : ∀ w, b ≠ Pipeline.arrRef spec0 w) : W₂ m d (Proc.devRef .tc b) = W₁ m d (Proc.devRef .tc b) :=
  Pipeline.afterRegion_of_not_arr _ _ hb

theorem W₄_ne {b : Ref sig .tc} (hb : b ≠ main_v25) : W₄ m d (Proc.devRef .tc b) = W₃ m d (Proc.devRef .tc b) :=
  Function.update_of_ne (StableHlo.devRef_ne_of_ne hb) _ _
theorem W₄_out : W₄ m d (Proc.devRef .tc main_v25) = gath (rowI m d) (tabA m d) := Function.update_self _ _ _

/-- The indices, as one list: the first result. -/
def idxList : S65536.Idx → BitVec 32 := shapeCast S65536 (idx3 (W₁ m) d) shapeCasts_S256x1x256_S65536

theorem W₃_v22 : W₃ m d (Proc.devRef .tc main_v22) = idxList m d := (between_v22 _).trans (by rw [W₂_idx]; rfl)
theorem rowI_eq : rowI m d = shapeCast S1x65536 (idxList m d) shapeCasts_S65536_S1x65536 := (between_v24 _).trans (by rw [W₂_idx]; rfl)

theorem cast_lt (f : S256x1x256.Idx → BitVec 32) (hf : ∀ i, (f i).toNat < 7040) (x : S1x65536.Idx) :
    (shapeCast S1x65536 (shapeCast S65536 f shapeCasts_S256x1x256_S65536) shapeCasts_S65536_S1x65536 x).toNat < 7040 := hf _

/-- Every index names a row of the table. -/
theorem rowI_lt (x : S1x65536.Idx) : (rowI m d x).toNat < 7040 := by
  rw [rowI_eq]
  exact cast_lt _ (idx3_lt (W₁ m) d) x

theorem W₁_arg0 : W₁ m d (Proc.devRef .tc main_arg0) = m ((SparseCore.T d).loc main_arg0) := before_arg0 _
theorem W₃_arg0 : W₃ m d (Proc.devRef .tc main_arg0) = m ((SparseCore.T d).loc main_arg0) :=
  (between_arg0 _).trans ((W₂_arg m d (by decide)).trans (W₁_arg0 m d))
theorem W₅_arg0 : W₅ m d (Proc.devRef .tc main_arg0) = m ((SparseCore.T d).loc main_arg0) :=
  (after_arg0 _).trans ((W₄_ne m d (by decide)).trans (W₃_arg0 m d))
theorem W₁_arg1 : W₁ m d (Proc.devRef .tc main_arg1) = m ((SparseCore.T d).loc main_arg1) := before_arg1 _
theorem W₃_arg1 : W₃ m d (Proc.devRef .tc main_arg1) = m ((SparseCore.T d).loc main_arg1) :=
  (between_arg1 _).trans ((W₂_arg m d (by decide)).trans (W₁_arg1 m d))
theorem W₅_arg1 : W₅ m d (Proc.devRef .tc main_arg1) = m ((SparseCore.T d).loc main_arg1) :=
  (after_arg1 _).trans ((W₄_ne m d (by decide)).trans (W₃_arg1 m d))
theorem W₁_arg2 : W₁ m d (Proc.devRef .tc main_arg2) = m ((SparseCore.T d).loc main_arg2) := before_arg2 _
theorem W₃_arg2 : W₃ m d (Proc.devRef .tc main_arg2) = m ((SparseCore.T d).loc main_arg2) :=
  (between_arg2 _).trans ((W₂_arg m d (by decide)).trans (W₁_arg2 m d))
theorem W₅_arg2 : W₅ m d (Proc.devRef .tc main_arg2) = m ((SparseCore.T d).loc main_arg2) :=
  (after_arg2 _).trans ((W₄_ne m d (by decide)).trans (W₃_arg2 m d))

/-- The table, padded. -/
theorem tabA_eq : tabA m d = pad S7040x128 ![0, 0] ![150, 32] ![0, 0] (m ((SparseCore.T d).loc main_arg2)) (sitofp .f32 (constantI S_ 32 0#32))
    pads_S6890x96_S7040x128_01500_0320 h_S_ :=
  (between_v23 _).trans (by rw [W₂_arg m d (by decide), W₁_arg2])

/-- The results. -/
theorem W₅_v22 : W₅ m d (Proc.devRef .tc main_v22) = idxList m d := (after_v22 _).trans ((W₄_ne m d (by decide)).trans (W₃_v22 m d))
theorem W₅_v26 : W₅ m d (Proc.devRef .tc main_v26)
    = extractStridedSlice S65536x96 ![0, 0] (gath (rowI m d) (tabA m d)) slices_S65536x128_S65536x96_0_0 :=
  (after_v26 _).trans (by rw [W₄_out])

end Cert.Proof.K

end
-- ==== Proof.Run.lean ====
/-
  The whole program's run, at any floats: every unscoped buffer of the TensorCore ends at the last stage's contents,
  and every semaphore at zero.
-/
module

public import proofs.«01_k».proof.Proof.Call
public import proofs.«01_k».proof.Proof.Stage

@[expose] public section

set_option maxRecDepth 16384

noncomputable section

namespace Cert.Proof.K

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The ghost state at launch -/

/-- The launch's element: the handshakes' rounds, the pipeline's rounds, no transfer yet. -/
def u₀ : UU :=
  (initOf (K (F := F)).hsCells (K (F := F)).hsToks,
    (initOf (Pipeline.cells (Pipeline.pin (pcfgs (F := F)) adm) cells_inj) (Pipeline.launchToks (Pipeline.pin (pcfgs (F := F)) adm) cells_inj), 1))

/-- What the TensorCore is dealt of it. -/
def G (d : Dev nD) : sProp 𝕄 :=
  iprop(Pipeline.cellsGhost (Pipeline.pin (pcfgs (F := F)) adm) EP 0 d ∗ Pipeline.toksInit (Pipeline.pin (pcfgs (F := F)) adm) EP 0 d)

theorem own_EP (x : UP) : (BI.own ((Emb.inl : Emb UP (UP × Counters)).trans (embR (A := UH) (B := UP × Counters)) x) : sProp 𝕄) ⊢ BI.own (EP x) :=
  Entails.of_eq rfl

theorem no_emp {J : Type} (s : Finset J) : (bigSep s fun _ => iprop(emp)) = (iprop(emp) : sProp 𝕄) := bigSep_emp_const s

theorem deal_G : (BI.own (embR (initOf (Pipeline.cells (Pipeline.pin (pcfgs (F := F)) adm) cells_inj)
      (Pipeline.launchToks (Pipeline.pin (pcfgs (F := F)) adm) cells_inj), (1 : Counters))) : sProp 𝕄)
    ⊢ |={Set.univ}=> bigSep Finset.univ fun d : Dev nD => G d := by
  iintro Hu
  ihave H := (own_pair_emb (embR (A := UH) (B := UP × Counters)) _ (1 : Counters)) $$ Hu
  icases H with ⟨HP, -⟩
  ihave HP' := (own_EP (F := F) _) $$ HP
  imod (Pipeline.fund_ghost (Pipeline.pin (pcfgs (F := F)) adm) EP cells_inj) $$ HP' with ⟨Hg, Ht⟩
  imodintro
  unfold G
  rw [bigSep_sep']
  isplitl [Hg]
  · iapply (Entails.of_eq (bigSep_congr fun d _ => bigSep_univ_of_subsingleton (0 : Fin 1))) $$ Hg
  · iapply (Entails.of_eq (bigSep_congr fun d _ => bigSep_univ_of_subsingleton (0 : Fin 1))) $$ Ht

section
variable (I : (d : Dev nD) → Buf (Elt F) (iLoc d)) (A : (d : Dev nD) → Buf (Elt F) (tLoc d))

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P I A).x q thr) := by
  unfold u₀
  iintro Hu
  ihave H := (ownU_pair (initOf (K (F := F)).hsCells (K (F := F)).hsToks) _) $$ Hu
  icases H with ⟨HH, HR⟩
  imod (deal_G (F := F)) $$ HR with HG
  imodintro
  isplitl [HH]; · iexact HH
  isplitl [HG]; · iexact HG
  rw [show (bigSep Finset.univ fun thr : Thread nD τ => bigSep Finset.univ fun q : Fin 1 => (P I A).x q thr) = bigSep Finset.univ fun _ => iprop(emp) from
    bigSep_congr fun _ _ => bigSep_univ_of_subsingleton (0 : Fin 1), no_emp]
  iempintro
end

/-! ## The arrays of the call among the unscoped buffers -/

variable (m : (ℓ : Loc nD τ sig) → Buf (Elt F) ℓ) (ρ : Dev nD → PrngReg)

/-- The call's index row, table and output. -/
def callBufs : Finset (DevRef τ sig) := {Proc.devRef .tc main_v24, Proc.devRef .tc main_v23, Proc.devRef .tc main_v25}

theorem callBufs_sub : callBufs ⊆ Pipeline.ucRefs τ sig := by
  intro b hb
  simp only [callBufs, Finset.mem_insert, Finset.mem_singleton] at hb
  rcases hb with rfl | rfl | rfl
  · exact Pipeline.devRef_mem_ucRefs rfl
  · exact Pipeline.devRef_mem_ucRefs rfl
  · exact Pipeline.devRef_mem_ucRefs rfl

theorem held_call (d : Dev nD) (V : Valuation τ sig (Elt F)) : (StableHlo.held (T d) callBufs V : sProp 𝕄)
    = iprop((iLoc d ↦{fullShare} V (Proc.devRef .tc main_v24)) ∗ (tLoc d ↦{fullShare} V (Proc.devRef .tc main_v23))
        ∗ oLoc d ↦{fullShare} V (Proc.devRef .tc main_v25)) := by
  unfold StableHlo.held callBufs
  rw [SparseCore.bigSep_insert' (by decide), SparseCore.bigSep_insert' (by decide), bigSep_singleton]

/-- The buffers before the gather are the call's three and the rest; -/
theorem held_W₃ (d : Dev nD) : (StableHlo.held (T d) (Pipeline.ucRefs τ sig) (W₃ m d) : sProp 𝕄)
    = iprop(((iLoc d ↦{fullShare} rowI m d) ∗ (tLoc d ↦{fullShare} tabA m d) ∗ oLoc d ↦{fullShare} W₃ m d (Proc.devRef .tc main_v25))
        ∗ StableHlo.held (T d) (Pipeline.ucRefs τ sig \ callBufs) (W₃ m d)) := by
  rw [StableHlo.held_sub_split (T d) callBufs_sub, held_call]
  rfl

/-- and after it, the same with the output written. -/
theorem held_W₄ (d : Dev nD) : (StableHlo.held (T d) (Pipeline.ucRefs τ sig) (W₄ m d) : sProp 𝕄)
    = iprop(((iLoc d ↦{fullShare} rowI m d) ∗ (tLoc d ↦{fullShare} tabA m d) ∗ oLoc d ↦{fullShare} gath (rowI m d) (tabA m d))
        ∗ StableHlo.held (T d) (Pipeline.ucRefs τ sig \ callBufs) (W₃ m d)) := by
  rw [StableHlo.held_sub_split (T d) callBufs_sub, held_call, W₄_out, W₄_ne m d (by decide), W₄_ne m d (by decide)]
  rw [StableHlo.held_congr (T d) (V := W₄ m d) (V' := W₃ m d) fun b hb => Function.update_of_ne
    (fun e => (Finset.mem_sdiff.mp hb).2 (e ▸ by simp [callBufs])) _ _]
  rfl

theorem launch_held (d : Dev nD) : (unscopedBufs d (fun b => m ((SparseCore.T d : Thread nD τ).loc b)) : sProp 𝕄) = StableHlo.held (T d) (Pipeline.ucRefs τ sig) (W₀ m d) :=
  Pipeline.unscopedBufs_held d (W₀ m d)

/-! ## @main -/

/-- What @main leaves: every unscoped buffer at the last stage. -/
abbrev FIN (d : Dev nD) : sProp 𝕄 := StableHlo.held (T d) (Pipeline.ucRefs τ sig) (W₅ m d)

abbrev PM : (K (F := F)).Pay (nD := nD) (Val := Elt F) (Name := ℕ) (U := UU) := P (rowI m) (tabA m)

theorem main_lines (d : Dev nD) : main (F := F) d
    = (StableHlo.seq opsBefore.flatten >>= fun _ => Prog.lift (.customCall (SparseCore.inner (Pipeline.entry 0)) ()) >>= fun _ =>
        StableHlo.seq opsBetween.flatten >>= fun _ => sc.run d 0 >>= fun _ => StableHlo.seq opsAfter.flatten >>= fun _ => Pipeline.chain []) := by
  rw [main_chain d]
  refine (chain_lines _ opsBefore).trans (congrArg _ (funext fun _ => ?_))
  rw [Pipeline.chain_cons]
  refine congrArg _ (funext fun _ => ?_)
  refine (chain_lines _ opsBetween).trans (congrArg _ (funext fun _ => ?_))
  rw [Pipeline.chain_cons]
  refine congrArg _ (funext fun _ => ?_)
  exact chain_lines [] opsAfter

theorem flat {opss : List (List (HloOp τ sig (Elt F)))} {p : HloOp τ sig (Elt F) → Prop} (h : ∀ ops ∈ opss, ∀ op ∈ ops, p op) :
    ∀ op ∈ opss.flatten, p op := by
  intro op hop
  obtain ⟨ops, h1, h2⟩ := List.mem_flatten.mp hop
  exact h ops h1 op h2

/-- The TensorCore's state before the call: its debts, and the rest. -/
theorem debts_of (d : Dev nD) : ∃ R : sProp 𝕄, (K (F := F)).tcSt EH d 0 = iprop(debts d ∗ R) := ⟨_, rfl⟩

/-- @main on the TensorCore: the lines before the search, the search, the lines between, the gather, the last line. -/
theorem hmain (κ : GSem nD τ sig → ℕ) (d : Dev nD) :
    iprop((K (F := F)).ctx EH (PM m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [launch_held, main_lines]
  iintro ⟨#Hctx, Hst, ⟨Hb, Hh, Hts, -⟩, HG⟩
  obtain ⟨R, hR⟩ := debts_of (F := F) d
  iapply (StableHlo.wp_seq 𝒱 none Set.univ d (Pipeline.ucRefs τ sig) _ opsBefore.flatten (flat before_sub) (flat before_fresh) (W₀ m d)) $$ [Hb Hh]
  · isplitl [Hb] <;> iassumption
  iintro ⟨Hb, Hh⟩
  -- the search
  ihave Hst' := (Entails.of_eq hR) $$ Hst
  icases Hst' with ⟨Hd, HR⟩
  ihave HL := ((K (F := F)).ctx_levAts κ) $$ Hctx
  ihave HG' := (Entails.of_eq (show G d = iprop(Pipeline.cellsGhost (Pipeline.pin (pcfgs (F := F)) adm) EP 0 d
    ∗ Pipeline.toksInit (Pipeline.pin (pcfgs (F := F)) adm) EP 0 d) from rfl)) $$ HG
  icases HG' with ⟨Hg, Ht⟩
  iapply (wp_region (W₁ m) d) $$ [Hb Hh Hd HL Hg Ht]
  · isplitl [Hb]; · iexact Hb
    isplitl [Hh]; · iexact Hh
    isplitl [Hd]; · iexact Hd
    isplitl [HL]; · iexact HL
    isplitl [Hg]; · iexact Hg
    iexact Ht
  iintro ⟨Hb, Hh, Hd⟩
  ihave Hst := (Entails.of_eq hR.symm) $$ [Hd HR]
  · isplitl [Hd] <;> iassumption
  iapply (StableHlo.wp_seq 𝒱 none Set.univ d (Pipeline.ucRefs τ sig) _ opsBetween.flatten (flat between_sub) (flat between_fresh) (V₂ (W₁ m) d)) $$ [Hb Hh]
  · isplitl [Hb] <;> iassumption
  iintro ⟨Hb, Hh⟩
  -- the gather
  ihave Hh' := (Entails.of_eq (show (StableHlo.held (T d) (Pipeline.ucRefs τ sig) (StableHlo.after opsBetween.flatten (V₂ (W₁ m) d)) : sProp 𝕄) = _ from held_W₃ m d)) $$ Hh
  icases Hh' with ⟨Hcall, Hrest⟩
  rw [wp_bind]
  iapply ((K (F := F)).wp_run (D (F := F)) 𝒱 (EH := EH) (P := PM m) κ d 0) $$ [Hst Hcall Hrest Hb Hts]
  isplitr; · iexact Hctx
  isplitl [Hst]; · iexact Hst
  isplitl [Hcall]
  · iapply (hand_out d (rowI m d) (tabA m d) (W₃ m d (Proc.devRef .tc main_v25))) $$ Hcall
  iintro ⟨Hst, Hdn⟩
  ihave Hcall := (show (bigSep Finset.univ fun c : Fin ((K (F := F)).nCore 0) => (PM m).dn 0 d c) ⊢ _ from take_back d (rowI m d) (tabA m d)) $$ Hdn
  ihave Hh := (Entails.of_eq (held_W₄ m d).symm) $$ [Hcall Hrest]
  · isplitl [Hcall] <;> iassumption
  -- the last line
  iapply (StableHlo.wp_seq 𝒱 none Set.univ d (Pipeline.ucRefs τ sig) _ opsAfter.flatten (flat after_sub) (flat after_fresh) (W₄ m d)) $$ [Hb Hh]
  · isplitl [Hb] <;> iassumption
  iintro ⟨Hb, Hh⟩
  rw [Pipeline.chain_nil, Prog.pure_eq_ret, wp_ret]
  imodintro
  isplitl [Hst]; · iexact Hst
  isplitl [Hh]; · iexact Hh
  isplitl [Hb] <;> iassumption

/-- What the final memory reads. -/
def fq (d : Dev nD) (s' : Phys nD τ sig (Elt F)) : Prop := ∀ b ∈ Pipeline.ucRefs τ sig, s'.mem.mem (d, b) = W₅ m d b

theorem hfin (d : Dev nD) (s' : Phys nD τ sig (Elt F)) : iprop(FIN m d ∗ SI s') ⊢ (⌜fq m d s'⌝ : sProp 𝕄) := by
  unfold FIN StableHlo.held
  iintro ⟨Hh, HSI⟩
  ihave H := (pointsTo_read_all (Pipeline.ucRefs τ sig) (fun b => ((d, b) : Loc nD τ sig)) (W₅ m d) s') $$ [Hh HSI]
  · isplitl [Hh] <;> iassumption
  icases H with ⟨%h, -⟩
  ipureintro; exact h

/-- The whole run: every unscoped buffer at the last stage, every semaphore at zero. -/
theorem run_main [∀ e, Nonempty (Elt F e)] :
    θ_run (Cert.KernelIdeal.defs (F := F)) (Cert.KernelIdeal.threads (F := F)) ⟨m, fun _ => 0, ρ⟩ fun r =>
      (∀ d : Dev nD, ∀ b ∈ Pipeline.ucRefs τ sig, r.2.mem (d, b) = W₅ m d b) ∧ r.2.sem = fun _ => 0 :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (rowI m) (tabA m) (rowI_lt m))
    (fun q _ => match q with | 0 => SparseCore.Cfg.VecSplit.of_plain (vecSplit (rowI m) (tabA m)))
    m ρ main (fun d => G d) (FIN m) (u₀ (F := F)) (sep_elim_left.trans (hu₀ (rowI m) (tabA m))) (hmain m ρ) (fq m) (hfin m) _ (fun _ h hz => ⟨h, hz⟩)

end Cert.Proof.K

end
-- ==== Proof.Frames.lean ====
/- The two frames of the kernel, both taken from the one run. -/
module

public import proofs.«01_k».proof.Defs
public import proofs.«01_k».proof.Proof.Gen.Kernel
public import proofs.«01_k».proof.Proof.Run

@[expose] public section

set_option maxRecDepth 16384

noncomputable section

namespace Cert.Proof.K

open Cert.KernelIdeal Cert.KernelIdeal.Gen
open Idealize.ShloMosaic Idealize.SL.Sem

attribute [local instance] Cert.Kernel.Gen.facts Cert.KernelIdeal.Gen.facts

variable {F : FTy → Type} [FloatOps F]

/-- What the kernel's run gives a frame: the arguments as they were, every counter at zero. -/
theorem run_frame [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (Cert.KernelIdeal.defs (F := F)) _ _).mono
    (fun _ h => ⟨fun c =>
      ⟨(h.1 c _ (Pipeline.devRef_mem_ucRefs rfl)).trans (W₅_arg0 m c),
        (h.1 c _ (Pipeline.devRef_mem_ucRefs rfl)).trans (W₅_arg1 m c),
        (h.1 c _ (Pipeline.devRef_mem_ucRefs rfl)).trans (W₅_arg2 m c)⟩, h.2⟩)
    (run_main (F := F) m ρ)

/-- The idealized kernel runs and leaves its arguments. -/
theorem frame_kernelIdeal : Cert.quiescent_KernelIdeal := fun m ρ _ => run_frame m ρ

/-- The two programs' kernel bodies are the same text. -/
theorem bodies_eq : (Cert.Kernel.defs₀ (F := Bits)) = Cert.KernelIdeal.defs₀ := by
  funext p ℓ a
  match p, ℓ, a with
  | .tc, 0, _ => rfl
  | .tc, 1, _ => rfl
  | .scScalar _, 0, _ => rfl
  | .scScalar _, 1, _ => rfl
  | .scVector _ _, 0, _ => rfl
  | .scVector _ _, 1, _ => rfl

/-- The printed kernel runs and leaves its arguments. Its text is the idealized program's, so its run is the same run. -/
theorem frame_kernel : Cert.quiescent_Kernel := fun m ρ _ => by
  have h : (Cert.Kernel.defs (F := Bits)) = Cert.KernelIdeal.defs := by
    unfold Cert.Kernel.defs Cert.KernelIdeal.defs
    rw [bodies_eq]
    rfl
  rw [h]
  exact run_frame (F := Bits) m ρ

end Cert.Proof.K

end
-- ==== Proof.RefRun.lean ====
/- The reference's run: its @main is one straight line of host operations, listed here in program order, and every buffer ends at what the
   list makes of the launch's memory. -/
module

public import proofs.«01_k».proof.Defs
public import proofs.«01_k».proof.Proof.Gen.ReferenceIdeal
public import Idealize.ShloMosaic.Lib.StableHlo.Run
public import Idealize.ShloMosaic.Lib.StableHlo.ReadAt
public import Idealize.ShloMosaic.Lib.Claim
public import Idealize.ShloMosaic.Adequacy

@[expose] public section

set_option maxRecDepth 16384

noncomputable section

namespace Cert.Proof.R

open Cert.ReferenceIdeal Cert.ReferenceIdeal.Gen
open Idealize.ShloMosaic Idealize.SL.Sem

variable {F : FTy → Type} [FloatOps F]

/-- The points normalised ray by ray and flattened. -/
abbrev opsPoints : List (HloOp τ sig (Elt F)) :=
  [ StableHlo.nullary main_cst (constant S_ .f32 0x7F800000#32),
    StableHlo.binary main_arg0 main_cst main_v0 ((fun x v => Host.reduce FloatOps.minimumf x v reducesTo_S1024x64x3_S1024x3_d1 h_S_) : (⟨S1024x64x3, .f32⟩ : BufTy).Contents (Elt F) → (⟨S_, .f32⟩ : BufTy).Contents (Elt F) → (⟨S1024x3, .f32⟩ : BufTy).Contents (Elt F)),
    StableHlo.unary main_v0 main_v1 (broadcastInDim S1024x1x3 ![0, 2] bcast_S1024x3_S1024x1x3_0_2 : (⟨S1024x3, .f32⟩ : BufTy).Contents (Elt F) → (⟨S1024x1x3, .f32⟩ : BufTy).Contents (Elt F)),
    StableHlo.nullary main_cst_0 (constant S_ .f32 0xFF800000#32),
    StableHlo.binary main_arg0 main_cst_0 main_v2 ((fun x v => Host.reduce FloatOps.maximumf x v reducesTo_S1024x64x3_S1024x3_d1 h_S_) : (⟨S1024x64x3, .f32⟩ : BufTy).Contents (Elt F) → (⟨S_, .f32⟩ : BufTy).Contents (Elt F) → (⟨S1024x3, .f32⟩ : BufTy).Contents (Elt F)),
    StableHlo.unary main_v2 main_v3 (broadcastInDim S1024x1x3 ![0, 2] bcast_S1024x3_S1024x1x3_0_2 : (⟨S1024x3, .f32⟩ : BufTy).Contents (Elt F) → (⟨S1024x1x3, .f32⟩ : BufTy).Contents (Elt F)),
    StableHlo.unary main_v1 main_v4 (broadcastInDim S1024x64x3 ![0, 1, 2] bcast_S1024x1x3_S1024x64x3_0_1_2 : (⟨S1024x1x3, .f32⟩ : BufTy).Contents (Elt F) → (⟨S1024x64x3, .f32⟩ : BufTy).Contents (Elt F)),
    StableHlo.binary main_arg0 main_v4 main_v5 (subf : (⟨S1024x64x3, .f32⟩ : BufTy).Contents (Elt F) → (⟨S1024x64x3, .f32⟩ : BufTy).Contents (Elt F) → (⟨S1024x64x3, .f32⟩ : BufTy).Contents (Elt F)),
    StableHlo.binary main_v3 main_v1 main_v6 (subf : (⟨S1024x1x3, .f32⟩ : BufTy).Contents (Elt F) → (⟨S1024x1x3, .f32⟩ : BufTy).Contents (Elt F) → (⟨S1024x1x3, .f32⟩ : BufTy).Contents (Elt F)),
    StableHlo.unary main_v6 main_v7 (broadcastInDim S1024x64x3 ![0, 1, 2] bcast_S1024x1x3_S1024x64x3_0_1_2 : (⟨S1024x1x3, .f32⟩ : BufTy).Contents (Elt F) → (⟨S1024x64x3, .f32⟩ : BufTy).Contents (Elt F)),
    StableHlo.binary main_v5 main_v7 main_v8 (Host.divf : (⟨S1024x64x3, .f32⟩ : BufTy).Contents (Elt F) → (⟨S1024x64x3, .f32⟩ : BufTy).Contents (Elt F) → (⟨S1024x64x3, .f32⟩ : BufTy).Contents (Elt F)),
    StableHlo.reshape main_v8 main_v9 (rfl : (.f32 : EltTy) = .f32) shapeCasts_S1024x64x3_S65536x3 ]
theorem opsPoints_sub : (opsPoints : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.reshape_bufs_sub ..⟩
theorem opsPoints_fresh : (opsPoints : List (HloOp τ sig (Elt F))).Forall fun op => op.fresh = ∅ := by
  simp only [List.Forall]; repeat' constructor

/-- The distance of every point to every vertex. -/
abbrev opsDist : List (HloOp τ sig (Elt F)) :=
  [ StableHlo.binary main_arg1 main_arg1 main_v10 (mulf : (⟨S6890x3, .f32⟩ : BufTy).Contents (Elt F) → (⟨S6890x3, .f32⟩ : BufTy).Contents (Elt F) → (⟨S6890x3, .f32⟩ : BufTy).Contents (Elt F)),
    StableHlo.nullary main_cst_1 (constant S_ .f32 0x00000000#32),
    StableHlo.binary main_v10 main_cst_1 main_v11 ((fun x v => Host.reduceAdd x v reducesTo_S6890x3_S6890_d1 h_S_) : (⟨S6890x3, .f32⟩ : BufTy).Contents (Elt F) → (⟨S_, .f32⟩ : BufTy).Contents (Elt F) → (⟨S6890, .f32⟩ : BufTy).Contents (Elt F)),
    StableHlo.binary main_v9 main_v9 main_v12 (mulf : (⟨S65536x3, .f32⟩ : BufTy).Contents (Elt F) → (⟨S65536x3, .f32⟩ : BufTy).Contents (Elt F) → (⟨S65536x3, .f32⟩ : BufTy).Contents (Elt F)),
    StableHlo.nullary main_cst_2 (constant S_ .f32 0x00000000#32),
    StableHlo.binary main_v12 main_cst_2 main_v13 ((fun x v => Host.reduceAdd x v reducesTo_S65536x3_S65536_d1 h_S_) : (⟨S65536x3, .f32⟩ : BufTy).Contents (Elt F) → (⟨S_, .f32⟩ : BufTy).Contents (Elt F) → (⟨S65536, .f32⟩ : BufTy).Contents (Elt F)),
    StableHlo.unary main_v13 main_v14 (broadcastInDim S65536x1 ![0] bcast_S65536_S65536x1_0 : (⟨S65536, .f32⟩ : BufTy).Contents (Elt F) → (⟨S65536x1, .f32⟩ : BufTy).Contents (Elt F)),
    StableHlo.unary main_arg1 main_v15 ((transpose S3x6890 [1, 0] · transposes_S6890x3_S3x6890_1_0) : (⟨S6890x3, .f32⟩ : BufTy).Contents (Elt F) → (⟨S3x6890, .f32⟩ : BufTy).Contents (Elt F)),
    StableHlo.binary main_v9 main_v15 main_v16 ((fun l r => Host.dotGeneral dot_S65536x3_S3x6890_S65536x6890_1_0_0_1_n_n none l r) : (⟨S65536x3, .f32⟩ : BufTy).Contents (Elt F) → (⟨S3x6890, .f32⟩ : BufTy).Contents (Elt F) → (⟨S65536x6890, .f32⟩ : BufTy).Contents (Elt F)),
    StableHlo.nullary main_cst_3 (constant S_ .f32 0x40000000#32),
    StableHlo.unary main_cst_3 main_v17 (broadcastInDim S65536x6890 ![] bcast_S_S65536x6890 : (⟨S_, .f32⟩ : BufTy).Contents (Elt F) → (⟨S65536x6890, .f32⟩ : BufTy).Contents (Elt F)),
    StableHlo.binary main_v17 main_v16 main_v18 (mulf : (⟨S65536x6890, .f32⟩ : BufTy).Contents (Elt F) → (⟨S65536x6890, .f32⟩ : BufTy).Contents (Elt F) → (⟨S65536x6890, .f32⟩ : BufTy).Contents (Elt F)),
    StableHlo.unary main_v14 main_v19 (broadcastInDim S65536x6890 ![0, 1] bcast_S65536x1_S65536x6890_0_1 : (⟨S65536x1, .f32⟩ : BufTy).Contents (Elt F) → (⟨S65536x6890, .f32⟩ : BufTy).Contents (Elt F)),
    StableHlo.binary main_v19 main_v18 main_v20 (subf : (⟨S65536x6890, .f32⟩ : BufTy).Contents (Elt F) → (⟨S65536x6890, .f32⟩ : BufTy).Contents (Elt F) → (⟨S65536x6890, .f32⟩ : BufTy).Contents (Elt F)),
    StableHlo.unary main_v11 main_v21 (broadcastInDim S1x6890 ![1] bcast_S6890_S1x6890_1 : (⟨S6890, .f32⟩ : BufTy).Contents (Elt F) → (⟨S1x6890, .f32⟩ : BufTy).Contents (Elt F)),
    StableHlo.unary main_v21 main_v22 (broadcastInDim S65536x6890 ![0, 1] bcast_S1x6890_S65536x6890_0_1 : (⟨S1x6890, .f32⟩ : BufTy).Contents (Elt F) → (⟨S65536x6890, .f32⟩ : BufTy).Contents (Elt F)),
    StableHlo.binary main_v20 main_v22 main_v23 (addf : (⟨S65536x6890, .f32⟩ : BufTy).Contents (Elt F) → (⟨S65536x6890, .f32⟩ : BufTy).Contents (Elt F) → (⟨S65536x6890, .f32⟩ : BufTy).Contents (Elt F)),
    StableHlo.nullary main_cst_4 (constant S_ .f32 0x00000000#32),
    StableHlo.unary main_cst_4 main_v24 (broadcastInDim S65536x6890 ![] bcast_S_S65536x6890 : (⟨S_, .f32⟩ : BufTy).Contents (Elt F) → (⟨S65536x6890, .f32⟩ : BufTy).Contents (Elt F)),
    StableHlo.binary main_v23 main_v24 main_v25 (maximumf : (⟨S65536x6890, .f32⟩ : BufTy).Contents (Elt F) → (⟨S65536x6890, .f32⟩ : BufTy).Contents (Elt F) → (⟨S65536x6890, .f32⟩ : BufTy).Contents (Elt F)),
    StableHlo.unary main_v25 main_v26 (Host.sqrt : (⟨S65536x6890, .f32⟩ : BufTy).Contents (Elt F) → (⟨S65536x6890, .f32⟩ : BufTy).Contents (Elt F)) ]
theorem opsDist_sub : (opsDist : List (HloOp τ sig (Elt F))).Forall fun op => op.bufs ⊆ StableHlo.tcRefs τ sig :=
  ⟨StableHlo.binary_bufs_sub .., StableHlo.nullary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub ..⟩
theorem opsDist_fresh : (opsDist : List (HloOp τ sig (Elt F))).Forall fun op => op.fresh = ∅ := by
  simp only [List.Forall]; repeat' constructor

/-- The first vertex at the least distance. -/
abbrev opsLeast : List (HloOp τ sig (Elt F)) :=
  [ StableHlo.TRef.nullary (.of main_call0_v0 : StableHlo.TRef sig ⟨S65536x6890, .i32⟩) (iotaInDim S65536x6890 32 1),
    StableHlo.TRef.nullary (.of main_call0_cst : StableHlo.TRef sig ⟨S_, .f32⟩) (constant S_ .f32 0x7F800000#32),
    StableHlo.TRef.nullary (.of main_call0_c : StableHlo.TRef sig ⟨S_, .i32⟩) (constantI S_ 32 0#32),
    StableHlo.TRef.quaternary (.of main_v26 : StableHlo.TRef sig ⟨S65536x6890, .f32⟩) (.of main_call0_v0 : StableHlo.TRef sig ⟨S65536x6890, .i32⟩) (.of main_call0_cst : StableHlo.TRef sig ⟨S_, .f32⟩) (.of main_call0_c : StableHlo.TRef sig ⟨S_, .i32⟩) (.of main_call0_v1_0 : StableHlo.TRef sig ⟨S65536, .f32⟩) (fun x y u v j => (Host.argReduce reducer_argmin_f32_i32 x y u v reducesTo_S65536x6890_S65536_d1 h_S_ j).1),
    StableHlo.TRef.quaternary (.of main_v26 : StableHlo.TRef sig ⟨S65536x6890, .f32⟩) (.of main_call0_v0 : StableHlo.TRef sig ⟨S65536x6890, .i32⟩) (.of main_call0_cst : StableHlo.TRef sig ⟨S_, .f32⟩) (.of main_call0_c : StableHlo.TRef sig ⟨S_, .i32⟩) (.of main_v27 : StableHlo.TRef sig ⟨S65536, .i32⟩) (fun x y u v j => (Host.argReduce reducer_argmin_f32_i32 x y u v reducesTo_S65536x6890_S65536_d1 h_S_ j).2) ]
theorem opsLeast_sub : (opsLeast : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
theorem opsLeast_fresh : (opsLeast : List (HloOp τ sig (Elt F))).Forall fun op => op.fresh = ∅ := by
  simp only [List.Forall]; repeat' constructor

/-- The rows of the table at those vertices. -/
abbrev opsTake : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S65536, .i32⟩) (broadcastInDim S65536 ![] bcast_S_S65536),
    StableHlo.TRef.binary (.of main_v27 : StableHlo.TRef sig ⟨S65536, .i32⟩) (.of main_call1_v0 : StableHlo.TRef sig ⟨S65536, .i32⟩) (.of main_call1_v1 : StableHlo.TRef sig ⟨S65536, .i1⟩) (cmpi .slt),
    StableHlo.TRef.nullary (.of main_call1_c_0 : StableHlo.TRef sig ⟨S_, .i32⟩) (constantI S_ 32 6890#32),
    StableHlo.TRef.unary (.of main_call1_c_0 : StableHlo.TRef sig ⟨S_, .i32⟩) (.of main_call1_v2 : StableHlo.TRef sig ⟨S65536, .i32⟩) (broadcastInDim S65536 ![] bcast_S_S65536),
    StableHlo.TRef.binary (.of main_v27 : StableHlo.TRef sig ⟨S65536, .i32⟩) (.of main_call1_v2 : StableHlo.TRef sig ⟨S65536, .i32⟩) (.of main_call1_v3 : StableHlo.TRef sig ⟨S65536, .i32⟩) addi,
    StableHlo.TRef.ternary (.of main_call1_v1 : StableHlo.TRef sig ⟨S65536, .i1⟩) (.of main_call1_v3 : StableHlo.TRef sig ⟨S65536, .i32⟩) (.of main_v27 : StableHlo.TRef sig ⟨S65536, .i32⟩) (.of main_call1_v4 : StableHlo.TRef sig ⟨S65536, .i32⟩) select,
    StableHlo.TRef.unary (.of main_call1_v4 : StableHlo.TRef sig ⟨S65536, .i32⟩) (.of main_call1_v5 : StableHlo.TRef sig ⟨S65536x1, .i32⟩) (broadcastInDim S65536x1 ![0] bcast_S65536_S65536x1_0),
    StableHlo.TRef.nullary (.of main_call1_c_1 : StableHlo.TRef sig ⟨S1, .i32⟩) (constantI S1 32 6889#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S65536x1, .i32⟩) (broadcastInDim S65536x1 ![] bcast_S_S65536x1),
    StableHlo.TRef.binary (.of main_call1_v5 : StableHlo.TRef sig ⟨S65536x1, .i32⟩) (.of main_call1_v6 : StableHlo.TRef sig ⟨S65536x1, .i32⟩) (.of main_call1_v7 : StableHlo.TRef sig ⟨S65536x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S65536x1, .i32⟩) (broadcastInDim S65536x1 ![0, 1] bcast_S1x1_S65536x1_0_1),
    StableHlo.TRef.binary (.of main_call1_v5 : StableHlo.TRef sig ⟨S65536x1, .i32⟩) (.of main_call1_v9 : StableHlo.TRef sig ⟨S65536x1, .i32⟩) (.of main_call1_v10 : StableHlo.TRef sig ⟨S65536x1, .i1⟩) (cmpi .sle),
    StableHlo.TRef.binary (.of main_call1_v7 : StableHlo.TRef sig ⟨S65536x1, .i1⟩) (.of main_call1_v10 : StableHlo.TRef sig ⟨S65536x1, .i1⟩) (.of main_call1_v11 : StableHlo.TRef sig ⟨S65536x1, .i1⟩) andi,
    StableHlo.TRef.nullary (.of main_call1_c_3 : StableHlo.TRef sig ⟨S_, .i1⟩) (constantI S_ 1 1#1),
    StableHlo.TRef.binary (.of main_call1_v11 : StableHlo.TRef sig ⟨S65536x1, .i1⟩) (.of main_call1_c_3 : StableHlo.TRef sig ⟨S_, .i1⟩) (.of main_call1_v12 : StableHlo.TRef sig ⟨S65536, .i1⟩) (fun x v => Host.reduce IntOp.andi x v reducesTo_S65536x1_S65536_d1 h_S_),
    StableHlo.TRef.binary (.of main_arg2 : StableHlo.TRef sig ⟨S6890x96, .f32⟩) (.of main_call1_v5 : StableHlo.TRef sig ⟨S65536x1, .i32⟩) (.of main_call1_v13 : StableHlo.TRef sig ⟨S65536x96, .f32⟩) (fun x i => Host.gather gather_S6890x96_S65536x1_S65536x96_1_0_n_n_0_1_196 x i),
    StableHlo.TRef.unary (.of main_call1_v12 : StableHlo.TRef sig ⟨S65536, .i1⟩) (.of main_call1_v14 : StableHlo.TRef sig ⟨S65536x96, .i1⟩) (broadcastInDim S65536x96 ![0] bcast_S65536_S65536x96_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S65536x96, .f32⟩) (broadcastInDim S65536x96 ![] bcast_S_S65536x96),
    StableHlo.TRef.ternary (.of main_call1_v14 : StableHlo.TRef sig ⟨S65536x96, .i1⟩) (.of main_call1_v13 : StableHlo.TRef sig ⟨S65536x96, .f32⟩) (.of main_call1_v15 : StableHlo.TRef sig ⟨S65536x96, .f32⟩) (.of main_v28 : StableHlo.TRef sig ⟨S65536x96, .f32⟩) select ]
theorem opsTake_sub : (opsTake : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
theorem opsTake_fresh : (opsTake : List (HloOp τ sig (Elt F))).Forall fun op => op.fresh = ∅ := by
  simp only [List.Forall]; repeat' constructor

/-- @main's operations. -/
abbrev ops : List (HloOp τ sig (Elt F)) := [opsPoints, opsDist, opsLeast, opsTake].flatten

theorem main_eq (d : Dev nD) : main (F := F) d = StableHlo.seq ops := rfl

theorem ops_sub : (ops : List (HloOp τ sig (Elt F))).Forall fun op => op.bufs ⊆ StableHlo.tcRefs τ sig := by
  rw [List.forall_iff_forall_mem]
  intro op h
  obtain ⟨l, hl, ho⟩ := List.mem_flatten.1 h
  rcases List.mem_cons.1 hl with rfl | hl
  · exact (List.forall_iff_forall_mem.1 opsPoints_sub) op ho
  rcases List.mem_cons.1 hl with rfl | hl
  · exact (List.forall_iff_forall_mem.1 opsDist_sub) op ho
  rcases List.mem_cons.1 hl with rfl | hl
  · exact (List.forall_iff_forall_mem.1 opsLeast_sub) op ho
  rcases List.mem_cons.1 hl with rfl | hl
  · exact (List.forall_iff_forall_mem.1 opsTake_sub) op ho
  · exact absurd hl List.not_mem_nil

theorem ops_fresh : ∀ op ∈ (ops : List (HloOp τ sig (Elt F))), op.fresh = ∅ := by
  intro op h
  obtain ⟨l, hl, ho⟩ := List.mem_flatten.1 h
  rcases List.mem_cons.1 hl with rfl | hl
  · exact (List.forall_iff_forall_mem.1 opsPoints_fresh) op ho
  rcases List.mem_cons.1 hl with rfl | hl
  · exact (List.forall_iff_forall_mem.1 opsDist_fresh) op ho
  rcases List.mem_cons.1 hl with rfl | hl
  · exact (List.forall_iff_forall_mem.1 opsLeast_fresh) op ho
  rcases List.mem_cons.1 hl with rfl | hl
  · exact (List.forall_iff_forall_mem.1 opsTake_fresh) op ho
  · exact absurd hl List.not_mem_nil

/-- The reference runs, and every array ends at what its line of operations leaves there. -/
theorem run_ref (m : (ℓ : Loc nD τ sig) → Buf (Elt F) ℓ) (ρ : Dev nD → PrngReg) :
    θ_run (Cert.ReferenceIdeal.defs (F := F)) (onTc (τ := τ) (main (F := F))) ⟨m, fun _ => 0, ρ⟩ fun r =>
      ∀ (c : Dev nD) (b : Ref sig .tc), r.2.mem ((c.tc : Thread nD τ).loc b) = StableHlo.after ops (StableHlo.launchContents m c) (Proc.devRef .tc b) :=
  StableHlo.run_seq (by decide) (by decide) Cert.ReferenceIdeal.defs main (fun _ => ops) main_eq (fun _ => ops_sub) m ρ (fun _ => ops_fresh)

section
variable (V : Valuation τ sig (Elt F))

theorem end_arg0 : StableHlo.after ops V (Proc.devRef .tc main_arg0) = V (Proc.devRef .tc main_arg0) := by
  simp only [ops, opsPoints, opsDist, opsLeast, opsTake, List.flatten_cons, List.flatten_nil, List.append_nil, List.cons_append, List.nil_append]
  after_reads_simp
theorem end_arg1 : StableHlo.after ops V (Proc.devRef .tc main_arg1) = V (Proc.devRef .tc main_arg1) := by
  simp only [ops, opsPoints, opsDist, opsLeast, opsTake, List.flatten_cons, List.flatten_nil, List.append_nil, List.cons_append, List.nil_append]
  after_reads_simp
theorem end_arg2 : StableHlo.after ops V (Proc.devRef .tc main_arg2) = V (Proc.devRef .tc main_arg2) := by
  simp only [ops, opsPoints, opsDist, opsLeast, opsTake, List.flatten_cons, List.flatten_nil, List.append_nil, List.cons_append, List.nil_append]
  after_reads_simp
end

/-- The reference runs and leaves its arguments. -/
theorem frame_ref : Cert.quiescent_ReferenceIdeal := fun m ρ _ =>
  (θ_run Cert.ReferenceIdeal.defs _ _).mono
    (fun r h => ⟨fun c => ⟨(h c main_arg0).trans (end_arg0 _), (h c main_arg1).trans (end_arg1 _), (h c main_arg2).trans (end_arg2 _)⟩,
      Idealize.ShloMosaic.sem_eq_zero_of_no_sems (by decide) r.2⟩)
    (run_ref (F := Ideal) m ρ)

end Cert.Proof.R

end
-- ==== Proof.First.lean ====
/-
  The first position of a row's least value: it is one position, the square root does not move it, and values at ⊤
  appended to the row do not either.
-/
module

public import Idealize.ShloMosaic.PureOps.Ideal.Laws

@[expose] public section

noncomputable section

namespace Cert.Proof

open Idealize.ShloMosaic

/-- The word `w` is the first position at which `f` takes its least value. -/
def FirstLeast {n : ℕ} (f : Fin n → EReal) (w : BitVec 32) : Prop :=
  ∃ k : Fin n, w = BitVec.ofNat 32 k ∧ (∀ j, f k ≤ f j) ∧ ∀ j, f j = f k → k ≤ j

/-- There is one such position. -/
theorem FirstLeast.unique {n : ℕ} {f : Fin n → EReal} {w₁ w₂ : BitVec 32} (h₁ : FirstLeast f w₁) (h₂ : FirstLeast f w₂) : w₁ = w₂ := by
  obtain ⟨k₁, e₁, l₁, f₁⟩ := h₁
  obtain ⟨k₂, e₂, l₂, f₂⟩ := h₂
  have e : f k₁ = f k₂ := le_antisymm (l₁ k₂) (l₂ k₁)
  rw [e₁, e₂, le_antisymm (f₁ k₂ e.symm) (f₂ k₁ e)]

/-- The root keeps the order of values that are not negative. -/
theorem sqrt_le_iff {a b : EReal} (ha : 0 ≤ a) (hb : 0 ≤ b) : Ideal.sqrt a ≤ Ideal.sqrt b ↔ a ≤ b := by
  induction a using EReal.rec with
  | bot => exact absurd ha (by simp)
  | top =>
    induction b using EReal.rec with
    | bot => exact absurd hb (by simp)
    | top => simp
    | coe s =>
      have hs : ¬ s < 0 := not_lt.2 (EReal.coe_nonneg.1 hb)
      simp [hs]
  | coe r =>
    have hr : ¬ r < 0 := not_lt.2 (EReal.coe_nonneg.1 ha)
    induction b using EReal.rec with
    | bot => exact absurd hb (by simp)
    | top => simp
    | coe s =>
      have hs : ¬ s < 0 := not_lt.2 (EReal.coe_nonneg.1 hb)
      simp only [Ideal.sqrt_coe, if_neg hr, if_neg hs, EReal.coe_le_coe_iff]
      exact Real.sqrt_le_sqrt_iff (EReal.coe_nonneg.1 hb)

/-- The first least root is the first least value. -/
theorem FirstLeast.of_sqrt {n : ℕ} {f : Fin n → EReal} {w : BitVec 32} (h0 : ∀ j, 0 ≤ f j)
    (h : FirstLeast (fun j => Ideal.sqrt (f j)) w) : FirstLeast f w := by
  obtain ⟨k, e, l, u⟩ := h
  exact ⟨k, e, fun j => (sqrt_le_iff (h0 k) (h0 j)).1 (l j), fun j hj => u j (congrArg Ideal.sqrt hj)⟩

/-- Values at ⊤ behind a row's last do not move its first least position. -/
theorem FirstLeast.cut {n N : ℕ} (hn : n ≤ N) (h0 : 0 < n) {g : Fin N → EReal} (hg : ∀ j, n ≤ j.val → g j = ⊤) {w : BitVec 32}
    (h : FirstLeast g w) : FirstLeast (fun j : Fin n => g (j.castLE hn)) w := by
  obtain ⟨k, e, l, u⟩ := h
  have hk : k.val < n := by
    by_contra hc
    have ht : g k = ⊤ := hg k (not_lt.1 hc)
    have hz : k ≤ ⟨0, by omega⟩ := u _ (by rw [ht]; exact top_le_iff.1 (ht ▸ l ⟨0, by omega⟩))
    have : k.val ≤ 0 := hz
    omega
  exact ⟨⟨k.val, hk⟩, e, fun j => l _, fun j hj => u (j.castLE hn) hj⟩

/-- A word found as the least of the marked positions, or `N` where a position is not marked, is the first of them. -/
theorem FirstLeast.of_fold {N : ℕ} (hN : N < 2 ^ 31) {g : Fin N → EReal} {r : EReal} (hr : ∀ j, r ≤ g j) (ha : ∃ k, g k = r) {w : BitVec 32}
    (hle : ∀ j, g j = r → w.toInt ≤ j.val) (hin : 0 ≤ w.toInt ∧ (w.toInt < N → ∃ j : Fin N, g j = r ∧ w.toInt = j.val)) : FirstLeast g w := by
  obtain ⟨k, hk⟩ := ha
  have hw : w.toInt < N := lt_of_le_of_lt (hle k hk) (by exact_mod_cast k.isLt)
  obtain ⟨j, hj, e⟩ := hin.2 hw
  refine ⟨j, ?_, fun i => hj ▸ hr i, fun i hi => ?_⟩
  · apply BitVec.eq_of_toInt_eq
    rw [e, BitVec.toInt_ofNat', Int.bmod_eq_of_le] <;> have := j.isLt <;> omega
  · have := hle i (hi.trans hj)
    rw [e] at this
    exact_mod_cast this

/-- The squared distance of a point to a vertex as both programs compute it: the squared norms less twice the product,
    and never below zero. -/
def distance (q v : Fin 3 → EReal) : EReal := max ((∑ l, q l * q l) - 2 * (∑ l, q l * v l) + ∑ l, v l * v l) 0

theorem distance_nonneg (q v : Fin 3 → EReal) : 0 ≤ distance q v := le_max_right _ _

theorem square_nonneg (x : EReal) : 0 ≤ x * x := by
  induction x using EReal.rec with
  | bot => simp
  | top => simp
  | coe x => exact_mod_cast mul_self_nonneg x

end Cert.Proof

end
-- ==== Proof.KMin.lean ====
/-
  The search's last lines on one block: among the distances of a point, the first position that equals their least.
-/
module

public import proofs.«01_k».proof.Proof.Index
public import proofs.«01_k».proof.Proof.First
public import Idealize.ShloMosaic.Lib.Pointwise
public import Idealize.ShloMosaic.Lib.ValueIdx

@[expose] public section

set_option maxRecDepth 16384

noncomputable section

namespace Cert.Proof.K

open Cert.KernelIdeal Cert.KernelIdeal.Gen
open Idealize.ShloMosaic Idealize.ShloMosaic.ValueIdx

/-- A row's least distance, as the search takes it. -/
def rowLeast (g : FVec Ideal S256x6912 .f32) (h : 0x7F800000#32 = FKind.minimumf.neutral .f32 (.inl rfl)) : FVec Ideal S256 .f32 :=
  multiReduction .minimumf [1] S256 g 0x7F800000#32 reduces_S256x6912_S256 (.inl rfl) h

/-- The positions, with 6912 where the distance is not the row's least. -/
def marked (g : FVec Ideal S256x6912 .f32) (h : 0x7F800000#32 = FKind.minimumf.neutral .f32 (.inl rfl)) : IVec S256x6912 32 :=
  select (cmpf .oeq g (broadcastTo S256x6912 (shapeCast S256x1 (rowLeast g h) shapeCasts_S256_S256x1) broadcasts_S256x1_S256x6912))
    (iota .tc S256x6912 32 [1] iota_S256x6912_d1_w32) (broadcast S256x6912 6912#32)

theorem ofBits_inf : (FloatOps.ofBits (F := Ideal) .f32 0x7F800000#32 : EReal) = ⊤ := by
  show Ideal.ofBits .f32 0x7F800000#32 = ⊤
  simp [Ideal.ofBits, Ideal.ieee]

theorem rowLeast_eq (g : FVec Ideal S256x6912 .f32) (h) (r : Fin 256) :
    rowLeast g h (ValueIdx.ix1 r) = (Finset.univ : Finset (Fin 6912)).fold min (⊤ : EReal) (fun k => g (ValueIdx.ix2 r k)) := by
  unfold rowLeast
  rw [multiReduction_minimumf_eq_fold, Shape.Reduces.fold_fiber_r2_a1, ofBits_inf]
  rfl

theorem marked_at (g : FVec Ideal S256x6912 .f32) (h) (r : Fin 256) (k : Fin 6912) :
    marked g h (ValueIdx.ix2 r k) = if g (ValueIdx.ix2 r k) = rowLeast g h (ValueIdx.ix1 r) then BitVec.ofNat 32 k.val else 6912#32 := by
  unfold marked
  pointwise
  rfl

theorem toInt_position (k : Fin 6912) : (BitVec.ofNat 32 k.val).toInt = k.val := by
  have := k.isLt
  rw [BitVec.toInt_ofNat', Int.bmod_eq_of_le] <;> omega

/-- The least marked position is the first of the row's least distances. -/
theorem first_marked (g : FVec Ideal S256x6912 .f32) (h) (hi : 2147483647#32 = IKind.minsi.neutral) (r : Fin 256) :
    FirstLeast (fun k : Fin 6912 => g (ValueIdx.ix2 r k))
      (multiReductionI .minsi [1] S256 (marked g h) 2147483647#32 reduces_S256x6912_S256 hi (ValueIdx.ix1 r)) := by
  set w := multiReductionI .minsi [1] S256 (marked g h) 2147483647#32 reduces_S256x6912_S256 hi (ValueIdx.ix1 r) with hw
  have ew : w.toInt = (Finset.univ : Finset (Fin 6912)).fold min (2147483647#32).toInt (fun k => (marked g h (ValueIdx.ix2 r k)).toInt) := by
    rw [hw, multiReductionI_eq_fold, Shape.Reduces.fold_fiber_r2_a1,
      ← Finset.fold_hom (op := IKind.op .minsi) (op' := min) (m := BitVec.toInt) SortNet.toInt_minsi]
    rfl
  have er := rowLeast_eq g h r
  have hle : ∀ k, w.toInt ≤ (marked g h (ValueIdx.ix2 r k)).toInt := fun k => by
    rw [ew]
    exact (Finset.fold_min_le _).2 (Or.inr ⟨k, Finset.mem_univ _, le_rfl⟩)
  have hr : ∀ k, rowLeast g h (ValueIdx.ix1 r) ≤ g (ValueIdx.ix2 r k) := fun k => by
    rw [er]
    exact (Finset.fold_min_le _).2 (Or.inr ⟨k, Finset.mem_univ _, le_rfl⟩)
  refine FirstLeast.of_fold (r := rowLeast g h (ValueIdx.ix1 r)) (by norm_num) hr ?_ ?_ ⟨?_, ?_⟩
  · obtain ⟨k, hk⟩ := Finite.exists_min (fun k : Fin 6912 => (g (ValueIdx.ix2 r k) : EReal))
    refine ⟨k, le_antisymm ?_ (hr k)⟩
    rw [er]
    exact (Finset.le_fold_min _).2 ⟨le_top, fun j _ => hk j⟩
  · intro k hk
    have := hle k
    rw [marked_at, if_pos hk, toInt_position] at this
    exact this
  · rw [ew]
    refine (Finset.le_fold_min _).2 ⟨by decide, fun k _ => ?_⟩
    rw [marked_at]
    split
    · rw [toInt_position]; omega
    · decide
  · intro hlt
    rw [ew] at hlt
    rcases Finset.fold_min_lt _ |>.1 hlt with hlt | ⟨k, _, hk⟩
    · exact absurd hlt (by decide)
    · obtain ⟨k, hk'⟩ := Finite.exists_min (fun k : Fin 6912 => (marked g h (ValueIdx.ix2 r k)).toInt)
      have hk2 : (marked g h (ValueIdx.ix2 r k)).toInt < 6912 := lt_of_le_of_lt (hk' _) hk
      have e : w.toInt = (marked g h (ValueIdx.ix2 r k)).toInt := by
        refine le_antisymm (hle k) ?_
        rw [ew]
        exact (Finset.le_fold_min _).2 ⟨le_trans hk2.le (by decide), fun j _ => hk' j⟩
      rw [marked_at] at hk2 e
      split at hk2
      · rename_i hg
        rw [if_pos hg, toInt_position] at e
        exact ⟨k, hg, e⟩
      · exact absurd hk2 (by decide)

end Cert.Proof.K

end
-- ==== Proof.KDist.lean ====
/-
  The distances of one block as the body computes them, at the ideal values, in closed form.
-/
module

public import proofs.«01_k».proof.Proof.KMin
public import Idealize.ShloMosaic.Lib.MatmulPlain

@[expose] public section

set_option maxRecDepth 16384

noncomputable section

namespace Cert.Proof.K

open Cert.KernelIdeal Cert.KernelIdeal.Gen
open Idealize.ShloMosaic Idealize.ShloMosaic.ValueIdx

/-- The points of a block, padded to 128 lanes. -/
def wide (x0 : Vec Ideal S256x3 .f32) : FVec Ideal S256x128 .f32 :=
  concatenate S256x128 1 [⟨S256x3, shapeCast S256x3 x0 shapeCasts_S256x3_S256x3⟩, ⟨S256x125, broadcast S256x125 (Scalar.ofBits .f32 0x00000000#32)⟩]
    concatenates_S256x3_S256x125_S256x128_d1

/-- The points' squared norms. -/
def norms (x0 : Vec Ideal S256x3 .f32) : FVec Ideal S256x1 .f32 :=
  have v1 : FVec Ideal S256x3 .f32 := shapeCast S256x3 x0 shapeCasts_S256x3_S256x3
  have v2 : FVec Ideal S256x1 .f32 := extractStridedSlice S256x1 ![0, 0] v1 slices_S256x3_o0_0_S256x1
  have v3 : FVec Ideal S256x1 .f32 := extractStridedSlice S256x1 ![0, 1] v1 slices_S256x3_o0_1_S256x1
  have v4 : FVec Ideal S256x1 .f32 := extractStridedSlice S256x1 ![0, 2] v1 slices_S256x3_o0_2_S256x1
  addf (addf (mulf v2 v2) (mulf v3 v3)) (mulf v4 v4)

/-- The points times the vertices, one part of them. -/
def dots (x0 : Vec Ideal S256x3 .f32) (x1 : Vec Ideal S128x6912 .f32) : FVec Ideal S256x6912 .f32 :=
  matmul dot_S256x128_S128x6912_S256x6912_1_0_0_1_n_n none (wide x0) (shapeCast S128x6912 x1 shapeCasts_S128x6912_S128x6912 : FVec Ideal S128x6912 .f32)
    (constant S256x6912 .f32 0x00000000#32)

/-- The body's distances. -/
def kdist (x0 : Vec Ideal S256x3 .f32) (x1 x2 : Vec Ideal S128x6912 .f32) (x3 : Vec Ideal S1x6912 .f32) : FVec Ideal S256x6912 .f32 :=
  maximumf
    (addf
      (subf (broadcastTo S256x6912 (norms x0) broadcasts_S256x1_S256x6912)
        (mulf (broadcast S256x6912 (Scalar.ofBits .f32 0x40000000#32)) (addf (dots x0 x1) (dots x0 x2))))
      (broadcastTo S256x6912 (shapeCast S1x6912 x3 shapeCasts_S1x6912_S1x6912 : FVec Ideal S1x6912 .f32) broadcasts_S1x6912_S256x6912))
    (broadcast S256x6912 (Scalar.ofBits .f32 0x00000000#32))

theorem pay_eq (x0 : Vec Ideal S256x3 .f32) (x1 x2 : Vec Ideal S128x6912 .f32) (x3 : Vec Ideal S1x6912 .f32) :
    k0_pay1 x0 x1 x2 x3 = shapeCast S1x1x256 (multiReductionI .minsi [1] S256 (marked (kdist x0 x1 x2 x3) rfl) 2147483647#32 reduces_S256x6912_S256 rfl)
      shapeCasts_S256_S1x1x256 := rfl

/-- The body's index at a point is the first of its least distances. -/
theorem pay_first (x0 : Vec Ideal S256x3 .f32) (x1 x2 : Vec Ideal S128x6912 .f32) (x3 : Vec Ideal S1x6912 .f32) (r : Fin 256) :
    FirstLeast (fun k : Fin 6912 => kdist x0 x1 x2 x3 (ValueIdx.ix2 r k)) (k0_pay1 x0 x1 x2 x3 (ValueIdx.ix3 0 0 r)) := by
  have h := first_marked (kdist x0 x1 x2 x3) rfl rfl r
  rw [pay_eq]
  have e : shapeCast S1x1x256 (multiReductionI .minsi [1] S256 (marked (kdist x0 x1 x2 x3) rfl) 2147483647#32 reduces_S256x6912_S256 rfl)
      shapeCasts_S256_S1x1x256 (ValueIdx.ix3 0 0 r) = multiReductionI .minsi [1] S256 (marked (kdist x0 x1 x2 x3) rfl) 2147483647#32 reduces_S256x6912_S256 rfl (ValueIdx.ix1 r) := by
    generalize multiReductionI .minsi [1] S256 (marked (kdist x0 x1 x2 x3) rfl) 2147483647#32 reduces_S256x6912_S256 rfl = f
    pointwise
    rfl
  rw [e]
  exact h

theorem wide_lt (x0 : Vec Ideal S256x3 .f32) (r : Fin 256) (l : Fin 3) : wide x0 (ValueIdx.ix2 r (Fin.castAdd 125 l)) = x0 (ValueIdx.ix2 r l) := by
  have hl : ((ValueIdx.ix2 r (Fin.castAdd 125 l) : S256x128.Idx) 1).val < 3 := l.isLt
  unfold wide
  pointwise
  rw [dif_pos hl]
  rfl

theorem wide_ge (x0 : Vec Ideal S256x3 .f32) (r : Fin 256) (l : Fin 125) : wide x0 (ValueIdx.ix2 r (Fin.natAdd 3 l)) = (0 : EReal) := by
  have hl : ¬ ((ValueIdx.ix2 r (Fin.natAdd 3 l) : S256x128.Idx) 1).val < 3 := Nat.not_lt.2 (Nat.le_add_right 3 l.val)
  unfold wide
  pointwise
  rw [dif_neg hl]

theorem norms_at (x0 : Vec Ideal S256x3 .f32) (r : Fin 256) : norms x0 (ValueIdx.ix2 r 0) =
   (∑ l : Fin 3, x0 (ValueIdx.ix2 r l) * x0 (ValueIdx.ix2 r l) : EReal) := by
  rw [Fin.sum_univ_three]
  unfold norms
  pointwise
  rfl

theorem dots_at (x0 : Vec Ideal S256x3 .f32) (x1 : Vec Ideal S128x6912 .f32) (r : Fin 256) (k : Fin 6912) : dots x0 x1 (ValueIdx.ix2 r k) =
   (∑ l : Fin 3, x0 (ValueIdx.ix2 r l) * x1 (ValueIdx.ix2 (Fin.castAdd 125 l) k) : EReal) := by
  have hd : dot_S256x128_S128x6912_S256x6912_1_0_0_1_n_n = DotDims.plain 256 128 6912 := rfl
  unfold dots
  rw [hd]
  refine (Ideal.matmul_plain_apply none _ _ _ r k).trans ?_
  have h0 : constant (F := Ideal) S256x6912 FTy.f32 (0#32) (ValueIdx.ix2 r k) = (0 : EReal) := Ideal.ofBits_zero_f32
  have hs : shapeCast S128x6912 x1 shapeCasts_S128x6912_S128x6912 = x1 := shapeCast_self _ _
  rw [h0, hs, zero_add]
  refine (Fin.sum_univ_add (a := 3) (b := 125) (fun l : Fin (3 + 125) => (wide x0 (ValueIdx.ix2 r l) * x1 (ValueIdx.ix2 l k) : EReal))).trans ?_
  have h1 : ∀ l : Fin 125, (wide x0 (ValueIdx.ix2 r (Fin.natAdd 3 l)) * x1 (ValueIdx.ix2 (Fin.natAdd 3 l) k) : EReal) = 0 := fun l => by
    rw [wide_ge, zero_mul]
  rw [Finset.sum_eq_zero fun l _ => h1 l, add_zero]
  exact Finset.sum_congr rfl fun l _ => by rw [wide_lt]

theorem ofBits_two : Ideal.ofBits FTy.f32 1073741824#32 = (2 : EReal) := by
  simp [Ideal.ofBits, Ideal.ieee]
  rw [← EReal.coe_mul]
  norm_num
  rfl

theorem kdist_at (x0 : Vec Ideal S256x3 .f32) (x1 x2 : Vec Ideal S128x6912 .f32) (x3 : Vec Ideal S1x6912 .f32) (r : Fin 256) (k : Fin 6912) :
    kdist x0 x1 x2 x3 (ValueIdx.ix2 r k) = max (norms x0 (ValueIdx.ix2 r 0) - (2 : EReal) * (dots x0 x1 (ValueIdx.ix2 r k) + dots x0 x2 (ValueIdx.ix2 r k))
      + x3 (ValueIdx.ix2 0 k)) 0 := by
  unfold kdist
  pointwise
  rw [ofBits_two]
  rfl

/-- At a vertex whose parts are the vertex and zero: the distance to it. -/
theorem kdist_vertex (x0 : Vec Ideal S256x3 .f32) (x1 x2 : Vec Ideal S128x6912 .f32) (x3 : Vec Ideal S1x6912 .f32) (r : Fin 256) (k : Fin 6912)
    (v : Fin 3 → EReal) (h1 : ∀ l, x1 (ValueIdx.ix2 (Fin.castAdd 125 l) k) = v l) (h2 : ∀ l, x2 (ValueIdx.ix2 (Fin.castAdd 125 l) k) = (0 : EReal))
    (h3 : x3 (ValueIdx.ix2 0 k) = ∑ l, v l * v l) :
    kdist x0 x1 x2 x3 (ValueIdx.ix2 r k) = distance (fun l => x0 (ValueIdx.ix2 r l)) v := by
  have e2 : dots x0 x2 (ValueIdx.ix2 r k) = (0 : EReal) := by
    rw [dots_at]
    exact Finset.sum_eq_zero fun l _ => by rw [h2, mul_zero]
  rw [kdist_at, e2, norms_at, dots_at, h3, add_zero]
  unfold distance
  simp only [h1]

/-- Past the last vertex: infinite. -/
theorem kdist_past (x0 : Vec Ideal S256x3 .f32) (x1 x2 : Vec Ideal S128x6912 .f32) (x3 : Vec Ideal S1x6912 .f32) (r : Fin 256) (k : Fin 6912)
    (h1 : ∀ l, x1 (ValueIdx.ix2 (Fin.castAdd 125 l) k) = (0 : EReal)) (h2 : ∀ l, x2 (ValueIdx.ix2 (Fin.castAdd 125 l) k) = (0 : EReal))
    (h3 : x3 (ValueIdx.ix2 0 k) = (⊤ : EReal)) : kdist x0 x1 x2 x3 (ValueIdx.ix2 r k) = (⊤ : EReal) := by
  have e1 : dots x0 x1 (ValueIdx.ix2 r k) = (0 : EReal) := by
    rw [dots_at]
    exact Finset.sum_eq_zero fun l _ => by rw [h1, mul_zero]
  have e2 : dots x0 x2 (ValueIdx.ix2 r k) = (0 : EReal) := by
    rw [dots_at]
    exact Finset.sum_eq_zero fun l _ => by rw [h2, mul_zero]
  have hn : (0 : EReal) ≤ norms x0 (ValueIdx.ix2 r 0) := by
    rw [norms_at]
    exact Finset.sum_nonneg fun l _ => square_nonneg _
  rw [kdist_at, e1, e2, h3, add_zero, mul_zero, sub_zero, EReal.add_top_of_ne_bot (fun h => by rw [h] at hn; exact absurd hn (by simp))]
  exact max_eq_left le_top

end Cert.Proof.K

end
-- ==== Proof.Verts.lean ====
/-
  What the search reads: the points, the vertices padded and split in two parts, and their squared norms.
-/
module

public import proofs.«01_k».proof.Proof.KDist
public import proofs.«01_k».proof.Proof.Stage

@[expose] public section

set_option maxRecDepth 16384

noncomputable section

namespace Cert.Proof.K

open Cert.KernelIdeal Cert.KernelIdeal.Gen
open Idealize.ShloMosaic Idealize.ShloMosaic.ValueIdx

/-- The normalised points as one list. -/
def points (x : Vec Ideal S1024x64x3 .f32) : Vec Ideal S65536x3 .f32 :=
  have v1 : FVec Ideal S1024x1x3 .f32 := broadcastInDim S1024x1x3 ![0, 2] bcast_S1024x3_S1024x1x3_0_2
    (Host.reduce FloatOps.minimumf x (constant S_ .f32 0x7F800000#32) reducesTo_S1024x64x3_S1024x3_d1 h_S_)
  have v3 : FVec Ideal S1024x1x3 .f32 := broadcastInDim S1024x1x3 ![0, 2] bcast_S1024x3_S1024x1x3_0_2
    (Host.reduce FloatOps.maximumf x (constant S_ .f32 0xFF800000#32) reducesTo_S1024x64x3_S1024x3_d1 h_S_)
  shapeCast S65536x3 (Host.divf (subf x (broadcastInDim S1024x64x3 ![0, 1, 2] bcast_S1024x1x3_S1024x64x3_0_1_2 v1) : FVec Ideal S1024x64x3 .f32)
    (broadcastInDim S1024x64x3 ![0, 1, 2] bcast_S1024x1x3_S1024x64x3_0_1_2 (subf v3 v1))) shapeCasts_S1024x64x3_S65536x3

/-- The vertices padded and transposed, -/
def lanes (v : Vec Ideal S6890x3 .f32) : FVec Ideal S128x6912 .f32 :=
  transpose S128x6912 [1, 0] (pad S6912x128 ![0, 0] ![22, 125] ![0, 0] v (sitofp .f32 (constantI S_ 32 0#32) : FVec Ideal S_ .f32) pads_S6890x3_S6912x128_0220_01250 h_S_)
    transposes_S6912x128_S128x6912_1_0
/-- their high part, -/
def high (v : Vec Ideal S6890x3 .f32) : FVec Ideal S128x6912 .f32 := extf .f32 (truncf .bf16 (lanes v) bitsLt_bf16_f32) bitsLt_bf16_f32
/-- their low part, -/
def low (v : Vec Ideal S6890x3 .f32) : FVec Ideal S128x6912 .f32 := extf .f32 (truncf .bf16 (subf (lanes v) (high v)) bitsLt_bf16_f32) bitsLt_bf16_f32
/-- and their squared norms, padded. -/
def lens (v : Vec Ideal S6890x3 .f32) : FVec Ideal S1x6912 .f32 :=
  shapeCast S1x6912 (pad S6912 ![0] ![22] ![0] (Host.reduceAdd (mulf v v : FVec Ideal S6890x3 .f32) (constant S_ .f32 0x00000000#32) reducesTo_S6890x3_S6890_d1 h_S_ : FVec Ideal S6890 .f32)
    (constant S_ .f32 0x7F800000#32) pads_S6890_S6912_0220 h_S_) shapeCasts_S6912_S1x6912

section
variable (V : Valuation τ sig (Elt Ideal))

theorem before_v9 : StableHlo.after opsBefore.flatten V (Proc.devRef .tc main_v9) = points (V (Proc.devRef .tc main_arg0)) := by
  simp only [opsBefore, opsNorm, opsPadV, opsSplit, opsPadN, opsRow, List.flatten_cons, List.flatten_nil, List.append_nil, List.cons_append, List.nil_append]
  after_reads_simp
  rfl
theorem before_v15 : StableHlo.after opsBefore.flatten V (Proc.devRef .tc main_v15) = high (V (Proc.devRef .tc main_arg1)) := by
  simp only [opsBefore, opsNorm, opsPadV, opsSplit, opsPadN, opsRow, List.flatten_cons, List.flatten_nil, List.append_nil, List.cons_append, List.nil_append]
  after_reads_simp
  rfl
theorem before_v18 : StableHlo.after opsBefore.flatten V (Proc.devRef .tc main_v18) = low (V (Proc.devRef .tc main_arg1)) := by
  simp only [opsBefore, opsNorm, opsPadV, opsSplit, opsPadN, opsRow, List.flatten_cons, List.flatten_nil, List.append_nil, List.cons_append, List.nil_append]
  after_reads_simp
  rfl
theorem before_v20 : StableHlo.after opsBefore.flatten V (Proc.devRef .tc main_v20) = lens (V (Proc.devRef .tc main_arg1)) := by
  simp only [opsBefore, opsNorm, opsPadV, opsSplit, opsPadN, opsRow, List.flatten_cons, List.flatten_nil, List.append_nil, List.cons_append, List.nil_append]
  after_reads_simp
  rfl

end

/-! ## Their elements -/

theorem sitofp_zero : (FloatOps.sitofp (F := Ideal) FTy.f32 0#32 : EReal) = 0 := by
  show (((0#32).toInt : ℝ) : EReal) = 0
  simp

theorem lanes_vertex (v : Vec Ideal S6890x3 .f32) (l : Fin 3) (k : Fin 6890) :
    lanes v (ValueIdx.ix2 (Fin.castAdd 125 l) (k.castLE (by norm_num))) = v (ValueIdx.ix2 k l) := by
  unfold lanes
  pointwise
  exact dif_pos ⟨k.isLt, l.isLt⟩

theorem lanes_past (v : Vec Ideal S6890x3 .f32) (l : Fin 128) (k : Fin 6912) (hk : 6890 ≤ k.val) :
    lanes v (ValueIdx.ix2 l k) = (0 : EReal) := by
  unfold lanes
  pointwise
  exact (dif_neg fun h => Nat.not_lt.2 hk h.1).trans sitofp_zero

theorem high_eq (v : Vec Ideal S6890x3 .f32) : high v = lanes v := rfl

theorem low_at (v : Vec Ideal S6890x3 .f32) (i : S128x6912.Idx) : low v i = (lanes v i - lanes v i : EReal) := rfl

theorem lens_vertex (v : Vec Ideal S6890x3 .f32) (k : Fin 6890) :
    lens v (ValueIdx.ix2 0 (k.castLE (by norm_num))) = (∑ l : Fin 3, v (ValueIdx.ix2 k l) * v (ValueIdx.ix2 k l) : EReal) := by
  unfold lens
  pointwise
  exact dif_pos k.isLt

theorem lens_past (v : Vec Ideal S6890x3 .f32) (k : Fin 6912) (hk : 6890 ≤ k.val) :
    lens v (ValueIdx.ix2 0 k) = (⊤ : EReal) := by
  unfold lens
  pointwise
  exact (dif_neg (Nat.not_lt.2 hk)).trans ofBits_inf

/-! ## The blocks -/

variable (m : (ℓ : Loc nD τ sig) → Buf (Elt Ideal) ℓ) (d : Dev nD)

theorem idx0_at : ∀ t : Fin cfg0.N, win0_0.index t 0 = t.val ∧ win0_0.index t 1 = 0 := by decide +kernel
theorem idx1_at : ∀ t : Fin cfg0.N, win0_1.index t 0 = 0 ∧ win0_1.index t 1 = 0 := by decide +kernel
theorem idx2_at : ∀ t : Fin cfg0.N, win0_2.index t 0 = 0 ∧ win0_2.index t 1 = 0 := by decide +kernel
theorem idx3w_at : ∀ t : Fin cfg0.N, win0_3.index t 0 = 0 ∧ win0_3.index t 1 = 0 := by decide +kernel

theorem point_lt (t : Fin 256) (r : Fin 256) : t.val * 256 + r.val < 65536 := by omega

theorem blk0_at (t : Fin 256) (r : Fin 256) (l : Fin 3) : blkOf (W₁ m) d 0 (Fin.cast N_0.symm t) (ValueIdx.ix2 r l)
    = points (m ((SparseCore.T d).loc main_arg0)) (ValueIdx.ix2 ⟨t.val * 256 + r.val, point_lt t r⟩ l) := by
  have e : blkOf (W₁ m) d 0 (Fin.cast N_0.symm t) = (win0_0.blk (Fin.cast N_0.symm t)).view.read (Elt Ideal) (points (m ((SparseCore.T d).loc main_arg0))) :=
    congrArg ((win0_0.blk (Fin.cast N_0.symm t)).view.read (Elt Ideal)) (before_v9 (W₀ m d))
  rw [e]
  show points _ ((win0_0.blk (Fin.cast N_0.symm t)).view.emb _) = _
  refine congrArg _ ?_
  funext a
  match a with
  | ⟨0, _⟩ => exact Fin.ext ((Pipeline.Window.rect_emb_val win0_0 _ _ 0 rfl).trans (by rw [(idx0_at _).1]; rfl))
  | ⟨1, _⟩ => exact Fin.ext ((Pipeline.Window.rect_emb_val win0_0 _ _ 1 rfl).trans (by rw [(idx0_at _).2]; simp <;> rfl))

theorem blk1_at (t : Fin 256) (l : Fin 128) (k : Fin 6912) : blkOf (W₁ m) d 1 (Fin.cast N_0.symm t) (ValueIdx.ix2 l k)
    = high (m ((SparseCore.T d).loc main_arg1)) (ValueIdx.ix2 l k) := by
  have e : blkOf (W₁ m) d 1 (Fin.cast N_0.symm t) = (win0_1.blk (Fin.cast N_0.symm t)).view.read (Elt Ideal) (high (m ((SparseCore.T d).loc main_arg1))) :=
    congrArg ((win0_1.blk (Fin.cast N_0.symm t)).view.read (Elt Ideal)) (before_v15 (W₀ m d))
  rw [e]
  show high _ ((win0_1.blk (Fin.cast N_0.symm t)).view.emb _) = _
  refine congrArg _ ?_
  funext a
  match a with
  | ⟨0, _⟩ => exact Fin.ext ((Pipeline.Window.rect_emb_val win0_1 _ _ 0 rfl).trans (by rw [(idx1_at _).1]; simp <;> rfl))
  | ⟨1, _⟩ => exact Fin.ext ((Pipeline.Window.rect_emb_val win0_1 _ _ 1 rfl).trans (by rw [(idx1_at _).2]; simp <;> rfl))

theorem blk2_at (t : Fin 256) (l : Fin 128) (k : Fin 6912) : blkOf (W₁ m) d 2 (Fin.cast N_0.symm t) (ValueIdx.ix2 l k)
    = low (m ((SparseCore.T d).loc main_arg1)) (ValueIdx.ix2 l k) := by
  have e : blkOf (W₁ m) d 2 (Fin.cast N_0.symm t) = (win0_2.blk (Fin.cast N_0.symm t)).view.read (Elt Ideal) (low (m ((SparseCore.T d).loc main_arg1))) :=
    congrArg ((win0_2.blk (Fin.cast N_0.symm t)).view.read (Elt Ideal)) (before_v18 (W₀ m d))
  rw [e]
  show low _ ((win0_2.blk (Fin.cast N_0.symm t)).view.emb _) = _
  refine congrArg _ ?_
  funext a
  match a with
  | ⟨0, _⟩ => exact Fin.ext ((Pipeline.Window.rect_emb_val win0_2 _ _ 0 rfl).trans (by rw [(idx2_at _).1]; simp <;> rfl))
  | ⟨1, _⟩ => exact Fin.ext ((Pipeline.Window.rect_emb_val win0_2 _ _ 1 rfl).trans (by rw [(idx2_at _).2]; simp <;> rfl))

theorem blk3_at (t : Fin 256) (k : Fin 6912) : blkOf (W₁ m) d 3 (Fin.cast N_0.symm t) (ValueIdx.ix2 0 k)
    = lens (m ((SparseCore.T d).loc main_arg1)) (ValueIdx.ix2 0 k) := by
  have e : blkOf (W₁ m) d 3 (Fin.cast N_0.symm t) = (win0_3.blk (Fin.cast N_0.symm t)).view.read (Elt Ideal) (lens (m ((SparseCore.T d).loc main_arg1))) :=
    congrArg ((win0_3.blk (Fin.cast N_0.symm t)).view.read (Elt Ideal)) (before_v20 (W₀ m d))
  rw [e]
  show lens _ ((win0_3.blk (Fin.cast N_0.symm t)).view.emb _) = _
  refine congrArg _ ?_
  funext a
  match a with
  | ⟨0, _⟩ => exact Fin.ext ((Pipeline.Window.rect_emb_val win0_3 _ _ 0 rfl).trans (by rw [(idx3w_at _).1]; simp <;> rfl))
  | ⟨1, _⟩ => exact Fin.ext ((Pipeline.Window.rect_emb_val win0_3 _ _ 1 rfl).trans (by rw [(idx3w_at _).2]; simp <;> rfl))

/-- Among the vertices, the first nearest to each point: what the index at that point is, where every vertex is finite. -/
theorem idx3_first (hv : ∀ i, m ((SparseCore.T d).loc main_arg1) i ≠ (⊤ : EReal) ∧ m ((SparseCore.T d).loc main_arg1) i ≠ (⊥ : EReal)) (t r : Fin 256) :
    FirstLeast (fun k : Fin 6890 => distance (fun l => points (m ((SparseCore.T d).loc main_arg0)) (ValueIdx.ix2 ⟨t.val * 256 + r.val, point_lt t r⟩ l))
        (fun l => m ((SparseCore.T d).loc main_arg1) (ValueIdx.ix2 k l))) (idx3 (W₁ m) d (ValueIdx.ix3 t 0 r)) := by
  have low_zero : ∀ l (k : Fin 6912), low (m ((SparseCore.T d).loc main_arg1)) (ValueIdx.ix2 (Fin.castAdd 125 l) k) = (0 : EReal) := fun l k => by
    rw [low_at]
    by_cases hk : k.val < 6890
    · have := lanes_vertex (m ((SparseCore.T d).loc main_arg1)) l ⟨k.val, hk⟩
      rw [show ((⟨k.val, hk⟩ : Fin 6890).castLE (by norm_num) : Fin 6912) = k from rfl] at this
      rw [this]
      exact EReal.sub_self (hv _).1 (hv _).2
    · rw [lanes_past _ _ _ (Nat.not_lt.1 hk), sub_zero]
  have h := FirstLeast.cut (n := 6890) (by norm_num) (by norm_num) (fun k hk => kdist_past _ _ _ _ r k
      (fun l => (blk1_at m d t _ k).trans (lanes_past _ _ _ hk)) (fun l => (blk2_at m d t _ k).trans (low_zero l k)) ((blk3_at m d t k).trans (lens_past _ _ hk)))
    (pay_first (blkOf (W₁ m) d 0 (Fin.cast N_0.symm t)) (blkOf (W₁ m) d 1 (Fin.cast N_0.symm t)) (blkOf (W₁ m) d 2 (Fin.cast N_0.symm t))
      (blkOf (W₁ m) d 3 (Fin.cast N_0.symm t)) r)
  have e : ∀ k : Fin 6890, kdist (blkOf (W₁ m) d 0 (Fin.cast N_0.symm t)) (blkOf (W₁ m) d 1 (Fin.cast N_0.symm t)) (blkOf (W₁ m) d 2 (Fin.cast N_0.symm t))
      (blkOf (W₁ m) d 3 (Fin.cast N_0.symm t)) (ValueIdx.ix2 r (k.castLE (by norm_num)))
      = distance (fun l => points (m ((SparseCore.T d).loc main_arg0)) (ValueIdx.ix2 ⟨t.val * 256 + r.val, point_lt t r⟩ l))
        (fun l => m ((SparseCore.T d).loc main_arg1) (ValueIdx.ix2 k l)) := fun k => by
    refine (kdist_vertex _ _ _ _ r _ _ (fun l => (blk1_at m d t _ _).trans (lanes_vertex _ l k)) (fun l => (blk2_at m d t _ _).trans (low_zero l _))
      ((blk3_at m d t _).trans (lens_vertex _ k))).trans ?_
    simp only [blk0_at]
  simp only [e] at h
  exact h

end Cert.Proof.K

end
-- ==== Proof.RefLeast.lean ====
/-
  The reference's search for the nearest vertex: the fold of its reducer, in any order of the pairs, ends at the first of the
  least values.
-/
module

public import proofs.«01_k».proof.Proof.RefRun
public import proofs.«01_k».proof.Proof.First
public import Idealize.ShloMosaic.Lib.Pointwise
public import Idealize.ShloMosaic.Lib.Pointwise.Reduce
public import Idealize.ShloMosaic.Lib.ValueIdx
public import Idealize.ShloMosaic.PureOps.Ideal.Laws

@[expose] public section

set_option maxRecDepth 16384

noncomputable section

namespace Cert.Proof.R

open Cert.ReferenceIdeal Cert.ReferenceIdeal.Gen
open Idealize.ShloMosaic Idealize.ShloMosaic.ValueIdx Idealize.SL.Sem

/-- A pair comes no later than another: its value is less, or the same with an index no greater. -/
def Upto (a b : EReal × BitVec 32) : Prop := a.1 < b.1 ∨ (a.1 = b.1 ∧ a.2.toInt ≤ b.2.toInt)

theorem Upto.refl (a : EReal × BitVec 32) : Upto a a := Or.inr ⟨rfl, le_rfl⟩

theorem Upto.trans {a b c : EReal × BitVec 32} (h₁ : Upto a b) (h₂ : Upto b c) : Upto a c := by
  rcases h₁ with h₁ | ⟨e₁, l₁⟩ <;> rcases h₂ with h₂ | ⟨e₂, l₂⟩
  · exact Or.inl (h₁.trans h₂)
  · exact Or.inl (e₂ ▸ h₁)
  · exact Or.inl (e₁ ▸ h₂)
  · exact Or.inr ⟨e₁.trans e₂, l₁.trans l₂⟩

/-- The reducer keeps one of its two pairs, the earlier. -/
theorem reducer_spec (a b : EReal × BitVec 32) :
    (reducer_argmin_f32_i32 (F := Ideal) a b = a ∨ reducer_argmin_f32_i32 (F := Ideal) a b = b)
      ∧ Upto (reducer_argmin_f32_i32 (F := Ideal) a b) a ∧ Upto (reducer_argmin_f32_i32 (F := Ideal) a b) b := by
  have hl : FloatOps.cmpf (F := Ideal) (φ := .f32) .olt a.1 b.1 = BitVec.ofBool (decide (a.1 < b.1)) := rfl
  have hn : FloatOps.cmpf (F := Ideal) (φ := .f32) .une a.1 a.1 = 0#1 := by simp [Ideal.cmpf_def, Ideal.cmp]
  have he : FloatOps.cmpf (F := Ideal) (φ := .f32) .oeq a.1 b.1 = BitVec.ofBool (decide (a.1 = b.1)) := rfl
  have hs : IntOp.cmpi .slt a.2 b.2 = BitVec.ofBool (decide (a.2.toInt < b.2.toInt)) := rfl
  have e : reducer_argmin_f32_i32 (F := Ideal) a b = if a.1 < b.1 ∨ (a.1 = b.1 ∧ a.2.toInt < b.2.toInt) then a else b := by
    unfold reducer_argmin_f32_i32
    simp only [hl, hn, he, hs]
    obtain ⟨a1, a2⟩ := a
    obtain ⟨b1, b2⟩ := b
    by_cases h1 : a1 < b1
    · simp [h1, h1.ne, IntOp.ori, IntOp.andi, Scalar.select]
    · by_cases h2 : a1 = b1
      · subst h2
        by_cases h3 : a2.toInt < b2.toInt
        · simp [h3, IntOp.ori, IntOp.andi, Scalar.select]
        · simp [h3, IntOp.ori, IntOp.andi, Scalar.select]
      · simp [h1, h2, IntOp.ori, IntOp.andi, Scalar.select]
  rw [e]
  split
  · rename_i h
    exact ⟨Or.inl rfl, Upto.refl a, h.imp id fun h => ⟨h.1, h.2.le⟩⟩
  · rename_i h
    refine ⟨Or.inr rfl, ?_, Upto.refl b⟩
    rcases lt_trichotomy a.1 b.1 with h1 | h1 | h1
    · exact absurd (Or.inl h1) h
    · exact Or.inr ⟨h1.symm, not_lt.1 fun h2 => h (Or.inr ⟨h1, h2⟩)⟩
    · exact Or.inl h1

/-- A fold of the reducer ends at one of the pairs, no later than any. -/
theorem fold_spec (L : List (EReal × BitVec 32)) : ∀ i : EReal × BitVec 32,
    (L.foldl (reducer_argmin_f32_i32 (F := Ideal)) i = i ∨ L.foldl (reducer_argmin_f32_i32 (F := Ideal)) i ∈ L)
      ∧ Upto (L.foldl (reducer_argmin_f32_i32 (F := Ideal)) i) i ∧ ∀ p ∈ L, Upto (L.foldl (reducer_argmin_f32_i32 (F := Ideal)) i) p := by
  induction L with
  | nil => exact fun i => ⟨Or.inl rfl, Upto.refl i, fun p h => absurd h (List.not_mem_nil)⟩
  | cons q L ih =>
    intro i
    obtain ⟨h1, h2, h3⟩ := ih (reducer_argmin_f32_i32 (F := Ideal) i q)
    obtain ⟨r1, r2, r3⟩ := reducer_spec i q
    refine ⟨?_, h2.trans r2, fun p hp => ?_⟩
    · show L.foldl _ (reducer_argmin_f32_i32 (F := Ideal) i q) = i ∨ _
      rcases h1 with h1 | h1
      · rcases r1 with r1 | r1
        · exact Or.inl (h1.trans r1)
        · exact Or.inr (by rw [List.foldl_cons, h1, r1]; exact List.mem_cons_self)
      · exact Or.inr (List.mem_cons_of_mem _ h1)
    · rcases List.mem_cons.1 hp with rfl | hp
      · exact h2.trans r3
      · exact h3 p hp

/-- Over the pairs of the values and their positions, starting from the infinity and zero: the first of the least. -/
theorem first_fold {n : ℕ} (hn : 0 < n) (hN : n ≤ 2 ^ 31) (g : Fin n → EReal) (L : List (EReal × BitVec 32))
    (hL : ∀ p, p ∈ L ↔ ∃ k : Fin n, p = (g k, BitVec.ofNat 32 k.val)) :
    FirstLeast g (L.foldl (reducer_argmin_f32_i32 (F := Ideal)) (⊤, 0#32)).2 := by
  obtain ⟨h1, -, h3⟩ := fold_spec L (⊤, 0#32)
  generalize L.foldl (reducer_argmin_f32_i32 (F := Ideal)) (⊤, 0#32) = w at h1 h3
  have hi : ∀ k : Fin n, (BitVec.ofNat 32 k.val).toInt = k.val := fun k => by
    have := k.isLt
    rw [BitVec.toInt_ofNat', Int.bmod_eq_of_le] <;> omega
  have key : ∀ k : Fin n, w = (g k, BitVec.ofNat 32 k.val) → FirstLeast g w.2 := by
    rintro k rfl
    refine ⟨k, rfl, fun j => ?_, fun j hj => ?_⟩
    · rcases h3 _ ((hL _).2 ⟨j, rfl⟩) with h | h
      · exact h.le
      · exact h.1.le
    · rcases h3 _ ((hL _).2 ⟨j, rfl⟩) with h | h
      · exact absurd hj h.ne'
      · have := h.2
        rw [hi, hi] at this
        exact Fin.le_def.2 (by exact_mod_cast this)
  rcases h1 with h1 | h1
  · refine key ⟨0, hn⟩ ?_
    have ht : g ⟨0, hn⟩ = ⊤ := by
      rcases h3 _ ((hL _).2 ⟨⟨0, hn⟩, rfl⟩) with h | h
      · rw [h1] at h
        exact absurd h not_top_lt
      · rw [h1] at h
        exact h.1.symm
    rw [h1, ht]
  · obtain ⟨k, hk⟩ := (hL _).1 h1
    exact key k hk

/-- The pairs a row's fold runs over: the row's values and what rides with them. -/
theorem mem_fiber {n0 n1 : ℕ} {t : Shape} {α β : Type} (h : (⟨2, ![n0, n1]⟩ : Shape).ReducesTo [1] t) (j : t.Idx)
    (x : (⟨2, ![n0, n1]⟩ : Shape).Idx → α) (y : (⟨2, ![n0, n1]⟩ : Shape).Idx → β) (q : α × β) :
    q ∈ Host.argReduceFiber x y h j ↔ ∃ k : Fin n1,
      q = (x (Idealize.ShloMosaic.ix2 ⟨(j ⟨0, h.lt_r2_a1_0⟩).val, Shape.coordLt (j ⟨0, h.lt_r2_a1_0⟩) h.size_r2_a1_0⟩ k),
        y (Idealize.ShloMosaic.ix2 ⟨(j ⟨0, h.lt_r2_a1_0⟩).val, Shape.coordLt (j ⟨0, h.lt_r2_a1_0⟩) h.size_r2_a1_0⟩ k)) := by
  unfold Host.argReduceFiber
  simp only [List.mem_map, List.mem_filter, List.mem_finRange, true_and, decide_eq_true_eq]
  constructor
  · rintro ⟨n, hn, rfl⟩
    obtain ⟨k, hk⟩ := (Shape.ReducesTo.fiber_r2_a1 h _ _).1 hn
    exact ⟨k, by rw [hk]⟩
  · rintro ⟨k, rfl⟩
    refine ⟨Shape.rowMajor _ (Idealize.ShloMosaic.ix2 ⟨(j ⟨0, h.lt_r2_a1_0⟩).val, Shape.coordLt (j ⟨0, h.lt_r2_a1_0⟩) h.size_r2_a1_0⟩ k), ?_, ?_⟩
    · rw [Equiv.symm_apply_apply]
      exact (Shape.ReducesTo.fiber_r2_a1 h _ _).2 ⟨k, rfl⟩
    · rw [Equiv.symm_apply_apply]

/-- The indices an argmin returns, for any extents, -/
def leastOf {s t u : Shape} {axes : List (Fin s.rank)} (h : s.ReducesTo axes t) (hu : 0 < u.numel) (ix : FVec Ideal u .f32) (iy : IVec u 32)
    (x : FVec Ideal s .f32) (y : IVec s 32) : IVec t 32 := fun j => (Host.argReduce reducer_argmin_f32_i32 x y ix iy h hu j).2

/-- along rows: the first of the row's least values. -/
theorem argReduce_first {n0 n1 : ℕ} {t u : Shape} (hn : 0 < n1) (hN : n1 ≤ 2 ^ 31) (h : (⟨2, ![n0, n1]⟩ : Shape).ReducesTo [1] t) (hu : 0 < u.numel)
    (x : FVec Ideal ⟨2, ![n0, n1]⟩ .f32) (y : IVec ⟨2, ![n0, n1]⟩ 32) (ix : FVec Ideal u .f32) (iy : IVec u 32)
    (hx : ix (Shape.Idx.first hu) = (⊤ : EReal)) (hi : iy (Shape.Idx.first hu) = 0#32)
    (hy : ∀ a k, y (Idealize.ShloMosaic.ix2 a k) = BitVec.ofNat 32 k.val) (j : t.Idx) :
    FirstLeast (fun k : Fin n1 => x (Idealize.ShloMosaic.ix2 ⟨(j ⟨0, h.lt_r2_a1_0⟩).val, Shape.coordLt (j ⟨0, h.lt_r2_a1_0⟩) h.size_r2_a1_0⟩ k))
      (leastOf h hu ix iy x y j) := by
  unfold leastOf
  rw [Ideal.argReduce_eq_reduce2, Host.reduce2_eq_foldl_fiber, hx, hi]
  refine first_fold hn hN _ _ fun q => ?_
  rw [mem_fiber]
  simp only [hy]

end Cert.Proof.R

end
-- ==== Proof.RefArgmin.lean ====
/-
  The reference's argmin, row by row.
-/
module

public import proofs.«01_k».proof.Proof.RefLeast

@[expose] public section

set_option maxRecDepth 16384

noncomputable section

namespace Cert.Proof.R

open Cert.ReferenceIdeal Cert.ReferenceIdeal.Gen
open Idealize.ShloMosaic Idealize.ShloMosaic.ValueIdx Idealize.SL.Sem

theorem iota_at (a : Fin 65536) (k : Fin 6890) : iotaInDim S65536x6890 32 1 (Idealize.ShloMosaic.ix2 a k) = BitVec.ofNat 32 k.val := rfl

theorem start_top : constant (F := Ideal) S_ .f32 0x7F800000#32 (Shape.Idx.first h_S_) = (⊤ : EReal) := by
  show Ideal.ofBits .f32 0x7F800000#32 = ⊤
  simp [Ideal.ofBits, Ideal.ieee]

/-- The reference's argmin along each row, -/
def argmin (x : FVec Ideal S65536x6890 .f32) : IVec S65536 32 :=
  leastOf reducesTo_S65536x6890_S65536_d1 h_S_ (constant S_ .f32 0x7F800000#32) (constantI S_ 32 0#32) x (iotaInDim S65536x6890 32 1)

/-- is the first of the row's least values. -/
theorem argmin_first (x : FVec Ideal S65536x6890 .f32) (p : Fin 65536) :
    FirstLeast (fun k : Fin 6890 => x (ValueIdx.ix2 p k)) (argmin x (ValueIdx.ix1 p)) :=
  argReduce_first (n0 := 65536) (n1 := 6890) (by decide) (by decide) reducesTo_S65536x6890_S65536_d1 h_S_ x (iotaInDim S65536x6890 32 1) (constant S_ .f32 0x7F800000#32)
    (constantI S_ 32 0#32) start_top rfl iota_at (ValueIdx.ix1 p)

/-- The root of values that are not negative has its first least where they have. -/
theorem argmin_sqrt_first (y : FVec Ideal S65536x6890 .f32) (p : Fin 65536) (hy : ∀ k : Fin 6890, (0 : EReal) ≤ y (ValueIdx.ix2 p k)) :
    FirstLeast (fun k : Fin 6890 => y (ValueIdx.ix2 p k)) (argmin (Host.sqrt y) (ValueIdx.ix1 p)) :=
  FirstLeast.of_sqrt hy (argmin_first (Host.sqrt y) p)

end Cert.Proof.R

end
-- ==== Proof.RefValues.lean ====
/-
  The reference's two results: its distances in closed form, the vertex they find, and the row it takes.
-/
module

public import proofs.«01_k».proof.Proof.RefArgmin
public import Idealize.ShloMosaic.Lib.StackMember
public import Idealize.ShloMosaic.Lib.Routing.Ops
public import Idealize.ShloMosaic.Lib.StableHlo.RunRead

@[expose] public section

set_option maxRecDepth 16384

noncomputable section

namespace Cert.Proof.R

open Cert.ReferenceIdeal Cert.ReferenceIdeal.Gen
open Idealize.ShloMosaic Idealize.ShloMosaic.ValueIdx Idealize.SL.Sem

/-- The normalised points as one list. -/
def points (x : Vec Ideal S1024x64x3 .f32) : Vec Ideal S65536x3 .f32 :=
  have v1 : FVec Ideal S1024x1x3 .f32 := broadcastInDim S1024x1x3 ![0, 2] bcast_S1024x3_S1024x1x3_0_2
    (Host.reduce FloatOps.minimumf x (constant S_ .f32 0x7F800000#32) reducesTo_S1024x64x3_S1024x3_d1 h_S_)
  have v3 : FVec Ideal S1024x1x3 .f32 := broadcastInDim S1024x1x3 ![0, 2] bcast_S1024x3_S1024x1x3_0_2
    (Host.reduce FloatOps.maximumf x (constant S_ .f32 0xFF800000#32) reducesTo_S1024x64x3_S1024x3_d1 h_S_)
  shapeCast S65536x3 (Host.divf (subf x (broadcastInDim S1024x64x3 ![0, 1, 2] bcast_S1024x1x3_S1024x64x3_0_1_2 v1) : FVec Ideal S1024x64x3 .f32)
    (broadcastInDim S1024x64x3 ![0, 1, 2] bcast_S1024x1x3_S1024x64x3_0_1_2 (subf v3 v1))) shapeCasts_S1024x64x3_S65536x3

/-- The distances, before their root. -/
def dists (q : FVec Ideal S65536x3 .f32) (v : FVec Ideal S6890x3 .f32) : FVec Ideal S65536x6890 .f32 :=
  have v11 : FVec Ideal S6890 .f32 := Host.reduceAdd (mulf v v : FVec Ideal S6890x3 .f32) (constant S_ .f32 0x00000000#32) reducesTo_S6890x3_S6890_d1 h_S_
  have v13 : FVec Ideal S65536 .f32 := Host.reduceAdd (mulf q q : FVec Ideal S65536x3 .f32) (constant S_ .f32 0x00000000#32) reducesTo_S65536x3_S65536_d1 h_S_
  have v16 : FVec Ideal S65536x6890 .f32 := Host.dotGeneral dot_S65536x3_S3x6890_S65536x6890_1_0_0_1_n_n none q
    (transpose S3x6890 [1, 0] v transposes_S6890x3_S3x6890_1_0 : FVec Ideal S3x6890 .f32)
  have v18 : FVec Ideal S65536x6890 .f32 := mulf (broadcastInDim S65536x6890 ![] bcast_S_S65536x6890 (constant S_ .f32 0x40000000#32)) v16
  have v20 : FVec Ideal S65536x6890 .f32 := subf (broadcastInDim S65536x6890 ![0, 1] bcast_S65536x1_S65536x6890_0_1 (broadcastInDim S65536x1 ![0] bcast_S65536_S65536x1_0 v13)) v18
  have v23 : FVec Ideal S65536x6890 .f32 := addf v20 (broadcastInDim S65536x6890 ![0, 1] bcast_S1x6890_S65536x6890_0_1 (broadcastInDim S1x6890 ![1] bcast_S6890_S1x6890_1 v11))
  maximumf v23 (broadcastInDim S65536x6890 ![] bcast_S_S65536x6890 (constant S_ .f32 0x00000000#32))

/-- The nearest vertex to each point. -/
def nearest (q : Vec Ideal S65536x3 .f32) (v : Vec Ideal S6890x3 .f32) : IVec S65536 32 := argmin (Host.sqrt (dists q v))

/-- The row each index names, counted from the end where it is negative, as a column. -/
def rows (w : IVec S65536 32) : IVec S65536x1 32 :=
  broadcastInDim S65536x1 ![0] bcast_S65536_S65536x1_0
    (select (cmpi .slt w (broadcastInDim S65536 ![] bcast_S_S65536 (constantI S_ 32 0#32))) (addi w (broadcastInDim S65536 ![] bcast_S_S65536 (constantI S_ 32 6890#32))) w)

/-- Whether it lies in the table. -/
def inside (i : IVec S65536x1 32) : IVec S65536 1 :=
  Host.reduce IntOp.andi
    (andi (cmpi .sge i (broadcastInDim S65536x1 ![] bcast_S_S65536x1 (constantI S_ 32 0#32)))
      (cmpi .sle i (broadcastInDim S65536x1 ![0, 1] bcast_S1x1_S65536x1_0_1 (broadcastInDim S1x1 ![1] bcast_S1_S1x1_1 (constantI S1 32 6889#32)))))
    (constantI S_ 1 1#1) reducesTo_S65536x1_S65536_d1 h_S_

/-- The table's rows at the indices. -/
def take (f : FVec Ideal S6890x96 .f32) (w : IVec S65536 32) : FVec Ideal S65536x96 .f32 :=
  select (broadcastInDim S65536x96 ![0] bcast_S65536_S65536x96_0 (inside (rows w)))
    (Host.gather gather_S6890x96_S65536x1_S65536x96_1_0_n_n_0_1_196 f (rows w))
    (broadcastInDim S65536x96 ![] bcast_S_S65536x96 (constant (F := Ideal) S_ .f32 0x7FC00000#32 : S_.Idx → Ideal .f32))

section
variable (V : Valuation τ sig (Elt Ideal))

theorem found_v27 : StableHlo.after [opsPoints, opsDist, opsLeast].flatten V (Proc.devRef .tc main_v27)
    = nearest (points (V (Proc.devRef .tc main_arg0))) (V (Proc.devRef .tc main_arg1)) := by
  simp only [opsPoints, opsDist, opsLeast, List.flatten_cons, List.flatten_nil, List.append_nil, List.cons_append, List.nil_append]
  after_reads_simp
  rfl

theorem found_arg2 : StableHlo.after [opsPoints, opsDist, opsLeast].flatten V (Proc.devRef .tc main_arg2) = V (Proc.devRef .tc main_arg2) := by
  simp only [opsPoints, opsDist, opsLeast, List.flatten_cons, List.flatten_nil, List.append_nil, List.cons_append, List.nil_append]
  after_reads_simp

theorem take_v27 : StableHlo.after opsTake V (Proc.devRef .tc main_v27) = V (Proc.devRef .tc main_v27) := by
  simp only [opsTake]
  after_reads_simp

theorem take_v28 : StableHlo.after opsTake V (Proc.devRef .tc main_v28) = take (V (Proc.devRef .tc main_arg2)) (V (Proc.devRef .tc main_v27)) := by
  simp only [opsTake]
  after_reads_simp
  have e27 : (StableHlo.TRef.of main_v27 : StableHlo.TRef sig ⟨S65536, .i32⟩).ofBuf (V (Proc.devRef .tc main_v27)) = V (Proc.devRef .tc main_v27) := rfl
  have e2 : (StableHlo.TRef.of main_arg2 : StableHlo.TRef sig ⟨S6890x96, .f32⟩).ofBuf (V (Proc.devRef .tc main_arg2)) = V (Proc.devRef .tc main_arg2) := rfl
  have e28 : ∀ x, (StableHlo.TRef.of main_v28 : StableHlo.TRef sig ⟨S65536x96, .f32⟩).toBuf (Val := Elt Ideal) x = x := fun _ => rfl
  simp only [StableHlo.TRef.ofBuf_toBuf]
  refine (e28 _).trans ?_
  rw [e27, e2]
  unfold take inside rows
  with_reducible rfl

theorem ops_stage : StableHlo.after ops V = StableHlo.after opsTake (StableHlo.after [opsPoints, opsDist, opsLeast].flatten V) := rfl

/-- The reference's list of indices. -/
theorem end_v27 : StableHlo.after ops V (Proc.devRef .tc main_v27) = nearest (points (V (Proc.devRef .tc main_arg0))) (V (Proc.devRef .tc main_arg1)) := by
  rw [ops_stage, take_v27, found_v27]

/-- The reference's rows. -/
theorem end_v28 : StableHlo.after ops V (Proc.devRef .tc main_v28)
    = take (V (Proc.devRef .tc main_arg2)) (nearest (points (V (Proc.devRef .tc main_arg0))) (V (Proc.devRef .tc main_arg1))) := by
  rw [ops_stage, take_v28, found_v27, found_arg2]

end

theorem ofBits_two : Ideal.ofBits FTy.f32 1073741824#32 = (2 : EReal) := by
  simp [Ideal.ofBits, Ideal.ieee]
  rw [← EReal.coe_mul]
  norm_num
  rfl

theorem dists_at (q : Vec Ideal S65536x3 .f32) (v : Vec Ideal S6890x3 .f32) (p : Fin 65536) (k : Fin 6890) :
    dists q v (ValueIdx.ix2 p k) = distance (fun l => q (ValueIdx.ix2 p l)) (fun l => v (ValueIdx.ix2 k l)) := by
  unfold dists distance
  pointwise
  rw [ofBits_two]
  rfl

/-- The reference's index of a point is the first vertex at the least distance from it. -/
theorem nearest_first (q : Vec Ideal S65536x3 .f32) (v : Vec Ideal S6890x3 .f32) (p : Fin 65536) :
    FirstLeast (fun k : Fin 6890 => distance (fun l => q (ValueIdx.ix2 p l)) (fun l => v (ValueIdx.ix2 k l))) (nearest q v (ValueIdx.ix1 p)) := by
  have h := argmin_sqrt_first (dists q v) p fun k => by rw [dists_at]; exact distance_nonneg _ _
  simp only [dists_at] at h
  exact h

theorem toInt_row (k : Fin 6890) : (BitVec.ofNat 32 k.val).toInt = k.val := by
  have := k.isLt
  rw [BitVec.toInt_ofNat', Int.bmod_eq_of_le] <;> omega

theorem rows_at (w : IVec S65536 32) (p : Fin 65536) (k : Fin 6890) (hk : w (ValueIdx.ix1 p) = BitVec.ofNat 32 k.val) :
    rows w (ValueIdx.ix2 p 0) = BitVec.ofNat 32 k.val := by
  unfold rows
  pointwise
  show Scalar.select (IntOp.cmpi CmpIPredicate.slt (w (ValueIdx.ix1 p)) 0#32) (IntOp.addi (w (ValueIdx.ix1 p)) 6890#32) (w (ValueIdx.ix1 p)) = _
  have e : IntOp.cmpi CmpIPredicate.slt (BitVec.ofNat 32 k.val) 0#32 = 0#1 := by
    show BitVec.ofBool (decide ((BitVec.ofNat 32 k.val).toInt < (0#32).toInt)) = 0#1
    rw [toInt_row, decide_eq_false (by simp)]
    rfl
  rw [hk, e]
  rfl

theorem inside_at (i : IVec S65536x1 32) (p : Fin 65536) (k : Fin 6890) (hk : i (ValueIdx.ix2 p 0) = BitVec.ofNat 32 k.val) :
    inside i (ValueIdx.ix1 p) = 1#1 := by
  have e1 : IntOp.cmpi CmpIPredicate.sge (BitVec.ofNat 32 k.val) 0#32 = 1#1 := by
    show BitVec.ofBool (decide ((0#32).toInt ≤ (BitVec.ofNat 32 k.val).toInt)) = 1#1
    rw [toInt_row, decide_eq_true (by simp)]
    rfl
  have e2 : IntOp.cmpi CmpIPredicate.sle (BitVec.ofNat 32 k.val) 6889#32 = 1#1 := by
    show BitVec.ofBool (decide ((BitVec.ofNat 32 k.val).toInt ≤ (6889#32).toInt)) = 1#1
    have := k.isLt
    have h9 : (6889#32).toInt = 6889 := by decide
    rw [toInt_row, h9, decide_eq_true (by omega)]
    rfl
  unfold inside
  pointwise
  rw [show (Finset.univ : Finset (Fin 1)) = {0} from rfl, Finset.fold_singleton]
  show IntOp.andi (IntOp.andi (IntOp.cmpi CmpIPredicate.sge (i (ValueIdx.ix2 p 0)) 0#32) (IntOp.cmpi CmpIPredicate.sle (i (ValueIdx.ix2 p 0)) 6889#32)) 1#1 = 1#1
  rw [hk, e1, e2]
  rfl

/-- The gather's element: the table's at the row its index names. -/
theorem gather_at (f : FVec Ideal S6890x96 .f32) (i : IVec S65536x1 32) (p : Fin 65536) (c : Fin 96) (k : Fin 6890) (hk : i (ValueIdx.ix2 p 0) = BitVec.ofNat 32 k.val) :
    Host.gather gather_S6890x96_S65536x1_S65536x96_1_0_n_n_0_1_196 f i (ValueIdx.ix2 p c) = f (ValueIdx.ix2 k c) :=
  Routing.gather_row gather_S6890x96_S65536x1_S65536x96_1_0_n_n_0_1_196 rfl rfl rfl rfl rfl f i p c k hk (by norm_num)

theorem take_at (f : FVec Ideal S6890x96 .f32) (w : IVec S65536 32) (p : Fin 65536) (c : Fin 96) (k : Fin 6890) (hk : w (ValueIdx.ix1 p) = BitVec.ofNat 32 k.val) :
    take f w (ValueIdx.ix2 p c) = f (ValueIdx.ix2 k c) := by
  have hr := rows_at w p k hk
  unfold take
  pointwise
  rw [gather_at f _ p c k hr]
  show Scalar.select (inside (rows w) (ValueIdx.ix1 p)) _ _ = _
  rw [inside_at _ p k hr]
  rfl

end Cert.Proof.R

end
-- ==== Proof.Values.lean ====
/-
  The kernel's two results at the ideal values: the vertex found is the reference's, and the row fetched is the reference's.
-/
module

public import proofs.«01_k».proof.Proof.Verts
public import proofs.«01_k».proof.Proof.RefValues

@[expose] public section

set_option maxRecDepth 16384

noncomputable section

namespace Cert.Proof.K

open Cert.KernelIdeal Cert.KernelIdeal.Gen
open Idealize.ShloMosaic Idealize.ShloMosaic.ValueIdx

variable (m : (ℓ : Loc nD τ sig) → Buf (Elt Ideal) ℓ) (d : Dev nD)

/-- Both programs normalise the points alike. -/
theorem points_eq (x : Vec Ideal S1024x64x3 .f32) : points x = R.points x := rfl

/-- The list of indices, point by point. -/
theorem idxList_at (t r : Fin 256) : idxList m d (ValueIdx.ix1 ⟨t.val * 256 + r.val, point_lt t r⟩) = idx3 (W₁ m) d (ValueIdx.ix3 t 0 r) := by
  unfold idxList
  generalize idx3 (W₁ m) d = f
  pointwise
  have h1 := t.isLt
  have h2 := r.isLt
  refine congrArg f ?_
  funext a
  match a with
  | ⟨0, _⟩ => exact Fin.ext (by show (t.val * 256 + r.val) / 256 = t.val; omega)
  | ⟨1, _⟩ => rfl
  | ⟨2, _⟩ => exact Fin.ext (by show (t.val * 256 + r.val) % 256 = r.val; omega)

/-- The kernel's list of indices is the reference's, where every vertex is finite. -/
theorem idxList_eq (hv : ∀ i, m ((SparseCore.T d).loc main_arg1) i ≠ (⊤ : EReal) ∧ m ((SparseCore.T d).loc main_arg1) i ≠ (⊥ : EReal)) :
    idxList m d = R.nearest (R.points (m ((SparseCore.T d).loc main_arg0))) (m ((SparseCore.T d).loc main_arg1)) := by
  have h : ∀ t r : Fin 256, idxList m d (ValueIdx.ix1 ⟨t.val * 256 + r.val, point_lt t r⟩)
      = R.nearest (R.points (m ((SparseCore.T d).loc main_arg0))) (m ((SparseCore.T d).loc main_arg1)) (ValueIdx.ix1 ⟨t.val * 256 + r.val, point_lt t r⟩) := fun t r => by
    rw [idxList_at]
    exact (idx3_first m d hv t r).unique (R.nearest_first _ _ _)
  funext i
  obtain ⟨p, rfl⟩ : ∃ p : Fin 65536, i = ValueIdx.ix1 p := ⟨i 0, ValueIdx.eq_ix1 i⟩
  have hp := p.isLt
  have e : p = ⟨(⟨p.val / 256, by omega⟩ : Fin 256).val * 256 + (⟨p.val % 256, by omega⟩ : Fin 256).val, point_lt _ _⟩ := Fin.ext (by show p.val = p.val / 256 * 256 + p.val % 256; omega)
  rw [e]
  exact h _ _

/-- The gathered row of a point whose index names a vertex, cut to its features: that vertex's row. -/
theorem fetched_at (w : IVec S65536 32) (f : FVec Ideal S6890x96 .f32) (p : Fin 65536) (c : Fin 96) (k : Fin 6890) (hk : w (ValueIdx.ix1 p) = BitVec.ofNat 32 k.val) :
    extractStridedSlice S65536x96 ![0, 0]
        (gath (shapeCast S1x65536 w shapeCasts_S65536_S1x65536)
          (pad S7040x128 ![0, 0] ![150, 32] ![0, 0] f (sitofp .f32 (constantI S_ 32 0#32) : FVec Ideal S_ .f32) pads_S6890x96_S7040x128_01500_0320 h_S_))
        slices_S65536x128_S65536x96_0_0 (ValueIdx.ix2 p c)
      = f (ValueIdx.ix2 k c) := by
  have hk' := k.isLt
  have hc := c.isLt
  have hw : shapeCast S1x65536 w shapeCasts_S65536_S1x65536 (ValueIdx.ix2 0 p) = BitVec.ofNat 32 k.val := by
    rw [← hk]
    pointwise
    rfl
  have ht : tabAt (shapeCast S1x65536 w shapeCasts_S65536_S1x65536) (ValueIdx.ix2 p (⟨c.val, by omega⟩ : Fin 128))
      = ValueIdx.ix2 (⟨k.val, by omega⟩ : Fin 7040) (⟨c.val, by omega⟩ : Fin 128) := by
    have hi : ixAt (ValueIdx.ix2 p (⟨c.val, by omega⟩ : Fin 128)) = ValueIdx.ix2 0 p := by
      funext a
      match a with
      | ⟨0, _⟩ => rfl
      | ⟨1, _⟩ => rfl
    funext a
    match a with
    | ⟨0, _⟩ =>
      show rowOf (shapeCast S1x65536 w shapeCasts_S65536_S1x65536 (ixAt (ValueIdx.ix2 p (⟨c.val, by omega⟩ : Fin 128)))) = _
      rw [hi, hw]
      refine Fin.ext ?_
      show (BitVec.ofNat 32 k.val).toNat % 7040 = k.val
      rw [BitVec.toNat_ofNat, Nat.mod_eq_of_lt (by omega : k.val < 2 ^ 32), Nat.mod_eq_of_lt (by omega)]
    | ⟨1, _⟩ => rfl
  pointwise
  refine (congrArg (pad S7040x128 ![0, 0] ![150, 32] ![0, 0] f (sitofp FTy.f32 (constantI S_ 32 0#32) : FVec Ideal S_ .f32)
    pads_S6890x96_S7040x128_01500_0320 h_S_) ht).trans ?_
  pointwise
  rfl

/-- The row fetched for a point whose index names vertex `k` is row `k` of the features. -/
theorem row_at (p : Fin 65536) (c : Fin 96) (k : Fin 6890) (hk : idxList m d (ValueIdx.ix1 p) = BitVec.ofNat 32 k.val) :
    extractStridedSlice S65536x96 ![0, 0] (gath (rowI m d) (tabA m d)) slices_S65536x128_S65536x96_0_0 (ValueIdx.ix2 p c)
      = m ((SparseCore.T d).loc main_arg2) (ValueIdx.ix2 k c) := by
  rw [rowI_eq, tabA_eq]
  exact fetched_at (idxList m d) (m ((SparseCore.T d).loc main_arg2)) p c k hk

/-- The rows fetched are the reference's. -/
theorem rows_eq (hv : ∀ i, m ((SparseCore.T d).loc main_arg1) i ≠ (⊤ : EReal) ∧ m ((SparseCore.T d).loc main_arg1) i ≠ (⊥ : EReal)) :
    extractStridedSlice S65536x96 ![0, 0] (gath (rowI m d) (tabA m d)) slices_S65536x128_S65536x96_0_0
      = R.take (m ((SparseCore.T d).loc main_arg2)) (R.nearest (R.points (m ((SparseCore.T d).loc main_arg0))) (m ((SparseCore.T d).loc main_arg1))) := by
  funext i
  obtain ⟨p, c, rfl⟩ : ∃ (p : Fin 65536) (c : Fin 96), i = ValueIdx.ix2 p c := ⟨i 0, i 1, ValueIdx.eq_ix2 i⟩
  obtain ⟨k, hk, -⟩ := R.nearest_first (R.points (m ((SparseCore.T d).loc main_arg0))) (m ((SparseCore.T d).loc main_arg1)) p
  exact (row_at m d p c k (by rw [idxList_eq m d hv]; exact hk)).trans (R.take_at _ _ p c k hk).symm

end Cert.Proof.K

end
-- ==== Proof.Algebraic.lean ====
/-
  The kernel and the reference leave the same two results, where every vertex is finite.
-/
module

public import proofs.«01_k».proof.Proof.Values
public import proofs.«01_k».proof.Proof.Frames
public import Idealize.ShloMosaic.Lib.ReduceAll

@[expose] public section

set_option maxRecDepth 16384

noncomputable section

namespace Cert.Proof

open Idealize.ShloMosaic Idealize.SL.Sem

/-- The precondition, read: no vertex coordinate is an infinity. -/
theorem finite_of_pre [Cert.Pre_finite_vertices.Facts] (x : FVec Ideal Cert.Pre_finite_vertices.S1024x64x3 .f32) (v : FVec Ideal Cert.Pre_finite_vertices.S6890x3 .f32)
    (f : FVec Ideal Cert.Pre_finite_vertices.S6890x96 .f32) (h : Cert.Pre_finite_vertices.fn (F := Ideal) x v f = fun _ => 1#1)
    (i : Cert.Pre_finite_vertices.S6890x3.Idx) : v i ≠ (⊤ : EReal) ∧ v i ≠ (⊥ : EReal) := by
  unfold Cert.Pre_finite_vertices.fn at h
  have : Subsingleton Cert.Pre_finite_vertices.S_.Idx := ⟨fun a b => funext fun k => k.elim0⟩
  have hi := Host.reduce_andi_all _ _ _ _ _ (congrFun h (Shape.Idx.first Cert.Pre_finite_vertices.Facts.h_S_)) i
  have ht : Ideal.ofBits .f32 0x7F800000#32 = ⊤ := by simp [Ideal.ofBits, Ideal.ieee]
  have hc : Ideal.cmp .olt (max (v i : EReal) (-(v i : EReal))) (Ideal.ofBits .f32 0x7F800000#32) = 1#1 := hi
  rw [ht] at hc
  constructor
  · intro e
    rw [e] at hc
    simp [Ideal.cmp] at hc
  · intro e
    rw [e] at hc
    simp [Ideal.cmp] at hc

/-- The algebraic claim: from equal arguments with finite vertices, kernel and reference end with the same rows and the same indices. -/
theorem algebraic [Cert.Pre_finite_vertices.Facts] : Cert.algebraic_KernelIdeal_ReferenceIdeal_pre_finite_vertices
    (hKernelIdeal := Cert.KernelIdeal.Gen.facts) (hReferenceIdeal := Cert.ReferenceIdeal.Gen.facts) := by
  intro m g m' g' hpre hargs
  have hv : ∀ c : Dev Cert.KernelIdeal.nD, ∀ i, m ((SparseCore.T c).loc Cert.KernelIdeal.main_arg1) i ≠ (⊤ : EReal) ∧ m ((SparseCore.T c).loc Cert.KernelIdeal.main_arg1) i ≠ (⊥ : EReal) :=
    fun c i => finite_of_pre _ _ _ (hpre c) i
  refine ⟨fun c => R.take (m ((SparseCore.T c).loc Cert.KernelIdeal.main_arg2)) (R.nearest (R.points (m ((SparseCore.T c).loc Cert.KernelIdeal.main_arg0))) (m ((SparseCore.T c).loc Cert.KernelIdeal.main_arg1))),
    fun c => R.nearest (R.points (m ((SparseCore.T c).loc Cert.KernelIdeal.main_arg0))) (m ((SparseCore.T c).loc Cert.KernelIdeal.main_arg1)), ?_, ?_⟩
  · refine (θ_run Cert.KernelIdeal.defs _ _).mono (fun r h c => ?_) (K.run_main m g)
    exact ⟨(h.1 c _ (Pipeline.devRef_mem_ucRefs rfl)).trans ((K.W₅_v26 m c).trans (K.rows_eq m c (hv c))),
      (h.1 c _ (Pipeline.devRef_mem_ucRefs rfl)).trans ((K.W₅_v22 m c).trans (K.idxList_eq m c (hv c))),
      (h.1 c _ (Pipeline.devRef_mem_ucRefs rfl)).trans (K.W₅_arg0 m c),
      (h.1 c _ (Pipeline.devRef_mem_ucRefs rfl)).trans (K.W₅_arg1 m c),
      (h.1 c _ (Pipeline.devRef_mem_ucRefs rfl)).trans (K.W₅_arg2 m c)⟩
  · refine (θ_run Cert.ReferenceIdeal.defs _ _).mono (fun r h c => ?_) (R.run_ref (F := Ideal) m' g')
    obtain ⟨a0, a1, a2⟩ := hargs c
    have e27 := (h c Cert.ReferenceIdeal.main_v27).trans (R.end_v27 _)
    have e28 := (h c Cert.ReferenceIdeal.main_v28).trans (R.end_v28 _)
    refine ⟨e28.trans ?_, e27.trans ?_, (h c Cert.ReferenceIdeal.main_arg0).trans (R.end_arg0 _), (h c Cert.ReferenceIdeal.main_arg1).trans (R.end_arg1 _),
      (h c Cert.ReferenceIdeal.main_arg2).trans (R.end_arg2 _)⟩
    · show R.take (m' ((c.tc : Thread Cert.ReferenceIdeal.nD Cert.ReferenceIdeal.τ).loc Cert.ReferenceIdeal.main_arg2))
        (R.nearest (R.points (m' ((c.tc : Thread Cert.ReferenceIdeal.nD Cert.ReferenceIdeal.τ).loc Cert.ReferenceIdeal.main_arg0)))
          (m' ((c.tc : Thread Cert.ReferenceIdeal.nD Cert.ReferenceIdeal.τ).loc Cert.ReferenceIdeal.main_arg1))) = _
      rw [a0, a1, a2]
    · show R.nearest (R.points (m' ((c.tc : Thread Cert.ReferenceIdeal.nD Cert.ReferenceIdeal.τ).loc Cert.ReferenceIdeal.main_arg0)))
          (m' ((c.tc : Thread Cert.ReferenceIdeal.nD Cert.ReferenceIdeal.τ).loc Cert.ReferenceIdeal.main_arg1)) = _
      rw [a0, a1]

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_vertices
public import proofs.«01_k».proof.Proof.Gen.KernelIdeal.Skeleton
public import proofs.«01_k».proof.Proof.Gen.KernelIdeal.Launch
public import proofs.«01_k».proof.Proof.Gen.KernelIdeal.Points
public import proofs.«01_k».proof.Proof.Frames
public import proofs.«01_k».proof.Proof.RefRun
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_finite_vertices.Gen.facts,
    K.frame_kernel, K.frame_kernelIdeal, fun m ρ _ => K.run_frame m ρ, R.frame_ref, fun m ρ _ => R.frame_ref m ρ trivial, trivial,
    @algebraic Cert.Pre_finite_vertices.Gen.facts⟩

end Cert.Proof

end
